-- ==== Defs.lean ====
def Pre_Flash (m : (ℓ : Loc Cert.Flash.nD Cert.Flash.τ Cert.Flash.sig) → Buf (Elt Bits) ℓ) : Prop :=
  True

def Pre_FlashIdeal (m : (ℓ : Loc Cert.FlashIdeal.nD Cert.FlashIdeal.τ Cert.FlashIdeal.sig) → Buf (Elt Ideal) ℓ) : Prop :=
  True

def Pre_FlashIdeal_finite_scores [hPre_finite_scores : Cert.Pre_finite_scores.Facts] (m : (ℓ : Loc Cert.FlashIdeal.nD Cert.FlashIdeal.τ Cert.FlashIdeal.sig) → Buf (Elt Ideal) ℓ) : Prop :=
  ∀ c : Dev Cert.FlashIdeal.nD,
    (Cert.Pre_finite_scores.fn (F := Ideal) (m ((c.tc : Thread Cert.FlashIdeal.nD Cert.FlashIdeal.τ).loc Cert.FlashIdeal.main_arg0)) (m ((c.tc : Thread Cert.FlashIdeal.nD Cert.FlashIdeal.τ).loc Cert.FlashIdeal.main_arg1)) (m ((c.tc : Thread Cert.FlashIdeal.nD Cert.FlashIdeal.τ).loc Cert.FlashIdeal.main_arg2)) (m ((c.tc : Thread Cert.FlashIdeal.nD Cert.FlashIdeal.τ).loc Cert.FlashIdeal.main_arg3)) (m ((c.tc : Thread Cert.FlashIdeal.nD Cert.FlashIdeal.τ).loc Cert.FlashIdeal.main_arg4)) (m ((c.tc : Thread Cert.FlashIdeal.nD Cert.FlashIdeal.τ).loc Cert.FlashIdeal.main_arg5))).1 = (fun _ => 1#1)
    ∧ (Cert.Pre_finite_scores.fn (F := Ideal) (m ((c.tc : Thread Cert.FlashIdeal.nD Cert.FlashIdeal.τ).loc Cert.FlashIdeal.main_arg0)) (m ((c.tc : Thread Cert.FlashIdeal.nD Cert.FlashIdeal.τ).loc Cert.FlashIdeal.main_arg1)) (m ((c.tc : Thread Cert.FlashIdeal.nD Cert.FlashIdeal.τ).loc Cert.FlashIdeal.main_arg2)) (m ((c.tc : Thread Cert.FlashIdeal.nD Cert.FlashIdeal.τ).loc Cert.FlashIdeal.main_arg3)) (m ((c.tc : Thread Cert.FlashIdeal.nD Cert.FlashIdeal.τ).loc Cert.FlashIdeal.main_arg4)) (m ((c.tc : Thread Cert.FlashIdeal.nD Cert.FlashIdeal.τ).loc Cert.FlashIdeal.main_arg5))).2.1 = (fun _ => 1#1)
    ∧ (Cert.Pre_finite_scores.fn (F := Ideal) (m ((c.tc : Thread Cert.FlashIdeal.nD Cert.FlashIdeal.τ).loc Cert.FlashIdeal.main_arg0)) (m ((c.tc : Thread Cert.FlashIdeal.nD Cert.FlashIdeal.τ).loc Cert.FlashIdeal.main_arg1)) (m ((c.tc : Thread Cert.FlashIdeal.nD Cert.FlashIdeal.τ).loc Cert.FlashIdeal.main_arg2)) (m ((c.tc : Thread Cert.FlashIdeal.nD Cert.FlashIdeal.τ).loc Cert.FlashIdeal.main_arg3)) (m ((c.tc : Thread Cert.FlashIdeal.nD Cert.FlashIdeal.τ).loc Cert.FlashIdeal.main_arg4)) (m ((c.tc : Thread Cert.FlashIdeal.nD Cert.FlashIdeal.τ).loc Cert.FlashIdeal.main_arg5))).2.2.1 = (fun _ => 1#1)
    ∧ (Cert.Pre_finite_scores.fn (F := Ideal) (m ((c.tc : Thread Cert.FlashIdeal.nD Cert.FlashIdeal.τ).loc Cert.FlashIdeal.main_arg0)) (m ((c.tc : Thread Cert.FlashIdeal.nD Cert.FlashIdeal.τ).loc Cert.FlashIdeal.main_arg1)) (m ((c.tc : Thread Cert.FlashIdeal.nD Cert.FlashIdeal.τ).loc Cert.FlashIdeal.main_arg2)) (m ((c.tc : Thread Cert.FlashIdeal.nD Cert.FlashIdeal.τ).loc Cert.FlashIdeal.main_arg3)) (m ((c.tc : Thread Cert.FlashIdeal.nD Cert.FlashIdeal.τ).loc Cert.FlashIdeal.main_arg4)) (m ((c.tc : Thread Cert.FlashIdeal.nD Cert.FlashIdeal.τ).loc Cert.FlashIdeal.main_arg5))).2.2.2 = (fun _ => 1#1)

def Pre_AttnIdeal (m : (ℓ : Loc Cert.AttnIdeal.nD Cert.AttnIdeal.τ Cert.AttnIdeal.sig) → Buf (Elt Ideal) ℓ) : Prop :=
  True

def Pre_AttnIdeal_finite_scores [hPre_finite_scores : Cert.Pre_finite_scores.Facts] (m : (ℓ : Loc Cert.AttnIdeal.nD Cert.AttnIdeal.τ Cert.AttnIdeal.sig) → Buf (Elt Ideal) ℓ) : Prop :=
  ∀ c : Dev Cert.AttnIdeal.nD,
    (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).1 = (fun _ => 1#1)
    ∧ (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.1 = (fun _ => 1#1)
    ∧ (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.2.1 = (fun _ => 1#1)
    ∧ (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.2.2 = (fun _ => 1#1)

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalRefIdeal (m : (ℓ : Loc Cert.FinalRefIdeal.nD Cert.FinalRefIdeal.τ Cert.FinalRefIdeal.sig) → Buf (Elt Ideal) ℓ) : Prop :=
  True

def Pre_MlaIn (m : (ℓ : Loc Cert.MlaIn.nD Cert.MlaIn.τ Cert.MlaIn.sig) → Buf (Elt Bits) ℓ) : Prop :=
  True

def Pre_MlaInIdeal (m : (ℓ : Loc Cert.MlaInIdeal.nD Cert.MlaInIdeal.τ Cert.MlaInIdeal.sig) → Buf (Elt Ideal) ℓ) : Prop :=
  True

def Pre_MlaInRefIdeal (m : (ℓ : Loc Cert.MlaInRefIdeal.nD Cert.MlaInRefIdeal.τ Cert.MlaInRefIdeal.sig) → Buf (Elt Ideal) ℓ) : Prop :=
  True

def Pre_SwaIn (m : (ℓ : Loc Cert.SwaIn.nD Cert.SwaIn.τ Cert.SwaIn.sig) → Buf (Elt Bits) ℓ) : Prop :=
  True

def Pre_SwaInIdeal (m : (ℓ : Loc Cert.SwaInIdeal.nD Cert.SwaInIdeal.τ Cert.SwaInIdeal.sig) → Buf (Elt Ideal) ℓ) : Prop :=
  True

def Pre_SwaInRefIdeal (m : (ℓ : Loc Cert.SwaInRefIdeal.nD Cert.SwaInRefIdeal.τ Cert.SwaInRefIdeal.sig) → Buf (Elt Ideal) ℓ) : Prop :=
  True

def quiescent_Flash [hFlash : Cert.Flash.Facts] : Prop :=
  ∀ (m : (ℓ : Loc Cert.Flash.nD Cert.Flash.τ Cert.Flash.sig) → Buf (Elt Bits) ℓ) (g : Dev Cert.Flash.nD → PrngReg), Pre_Flash m →
    θ_run (Cert.Flash.defs (F := Bits)) (onTc (τ := Cert.Flash.τ) (Cert.Flash.main (F := Bits))) ⟨m, fun _ => 0, g⟩ (fun r => (∀ c : Dev Cert.Flash.nD,
      r.2.mem ((c.tc : Thread Cert.Flash.nD Cert.Flash.τ).loc Cert.Flash.main_arg0) = m ((c.tc : Thread Cert.Flash.nD Cert.Flash.τ).loc Cert.Flash.main_arg0)
      ∧ r.2.mem ((c.tc : Thread Cert.Flash.nD Cert.Flash.τ).loc Cert.Flash.main_arg1) = m ((c.tc : Thread Cert.Flash.nD Cert.Flash.τ).loc Cert.Flash.main_arg1)
      ∧ r.2.mem ((c.tc : Thread Cert.Flash.nD Cert.Flash.τ).loc Cert.Flash.main_arg2) = m ((c.tc : Thread Cert.Flash.nD Cert.Flash.τ).loc Cert.Flash.main_arg2)
      ∧ r.2.mem ((c.tc : Thread Cert.Flash.nD Cert.Flash.τ).loc Cert.Flash.main_arg3) = m ((c.tc : Thread Cert.Flash.nD Cert.Flash.τ).loc Cert.Flash.main_arg3)
      ∧ r.2.mem ((c.tc : Thread Cert.Flash.nD Cert.Flash.τ).loc Cert.Flash.main_arg4) = m ((c.tc : Thread Cert.Flash.nD Cert.Flash.τ).loc Cert.Flash.main_arg4)
      ∧ r.2.mem ((c.tc : Thread Cert.Flash.nD Cert.Flash.τ).loc Cert.Flash.main_arg5) = m ((c.tc : Thread Cert.Flash.nD Cert.Flash.τ).loc Cert.Flash.main_arg5))
      ∧ r.2.sem = fun _ => 0)

def quiescent_FlashIdeal [hFlashIdeal : Cert.FlashIdeal.Facts] : Prop :=
  ∀ (m : (ℓ : Loc Cert.FlashIdeal.nD Cert.FlashIdeal.τ Cert.FlashIdeal.sig) → Buf (Elt Ideal) ℓ) (g : Dev Cert.FlashIdeal.nD → PrngReg), Pre_FlashIdeal m →
    θ_run (Cert.FlashIdeal.defs (F := Ideal)) (onTc (τ := Cert.FlashIdeal.τ) (Cert.FlashIdeal.main (F := Ideal))) ⟨m, fun _ => 0, g⟩ (fun r => (∀ c : Dev Cert.FlashIdeal.nD,
      r.2.mem ((c.tc : Thread Cert.FlashIdeal.nD Cert.FlashIdeal.τ).loc Cert.FlashIdeal.main_arg0) = m ((c.tc : Thread Cert.FlashIdeal.nD Cert.FlashIdeal.τ).loc Cert.FlashIdeal.main_arg0)
      ∧ r.2.mem ((c.tc : Thread Cert.FlashIdeal.nD Cert.FlashIdeal.τ).loc Cert.FlashIdeal.main_arg1) = m ((c.tc : Thread Cert.FlashIdeal.nD Cert.FlashIdeal.τ).loc Cert.FlashIdeal.main_arg1)
      ∧ r.2.mem ((c.tc : Thread Cert.FlashIdeal.nD Cert.FlashIdeal.τ).loc Cert.FlashIdeal.main_arg2) = m ((c.tc : Thread Cert.FlashIdeal.nD Cert.FlashIdeal.τ).loc Cert.FlashIdeal.main_arg2)
      ∧ r.2.mem ((c.tc : Thread Cert.FlashIdeal.nD Cert.FlashIdeal.τ).loc Cert.FlashIdeal.main_arg3) = m ((c.tc : Thread Cert.FlashIdeal.nD Cert.FlashIdeal.τ).loc Cert.FlashIdeal.main_arg3)
      ∧ r.2.mem ((c.tc : Thread Cert.FlashIdeal.nD Cert.FlashIdeal.τ).loc Cert.FlashIdeal.main_arg4) = m ((c.tc : Thread Cert.FlashIdeal.nD Cert.FlashIdeal.τ).loc Cert.FlashIdeal.main_arg4)
      ∧ r.2.mem ((c.tc : Thread Cert.FlashIdeal.nD Cert.FlashIdeal.τ).loc Cert.FlashIdeal.main_arg5) = m ((c.tc : Thread Cert.FlashIdeal.nD Cert.FlashIdeal.τ).loc Cert.FlashIdeal.main_arg5))
      ∧ r.2.sem = fun _ => 0)

def quiescent_FlashIdeal_pre_finite_scores [hFlashIdeal : Cert.FlashIdeal.Facts] [hPre_finite_scores : Cert.Pre_finite_scores.Facts] : Prop :=
  ∀ (m : (ℓ : Loc Cert.FlashIdeal.nD Cert.FlashIdeal.τ Cert.FlashIdeal.sig) → Buf (Elt Ideal) ℓ) (g : Dev Cert.FlashIdeal.nD → PrngReg), Pre_FlashIdeal_finite_scores m →
    θ_run (Cert.FlashIdeal.defs (F := Ideal)) (onTc (τ := Cert.FlashIdeal.τ) (Cert.FlashIdeal.main (F := Ideal))) ⟨m, fun _ => 0, g⟩ (fun r => (∀ c : Dev Cert.FlashIdeal.nD,
      r.2.mem ((c.tc : Thread Cert.FlashIdeal.nD Cert.FlashIdeal.τ).loc Cert.FlashIdeal.main_arg0) = m ((c.tc : Thread Cert.FlashIdeal.nD Cert.FlashIdeal.τ).loc Cert.FlashIdeal.main_arg0)
      ∧ r.2.mem ((c.tc : Thread Cert.FlashIdeal.nD Cert.FlashIdeal.τ).loc Cert.FlashIdeal.main_arg1) = m ((c.tc : Thread Cert.FlashIdeal.nD Cert.FlashIdeal.τ).loc Cert.FlashIdeal.main_arg1)
      ∧ r.2.mem ((c.tc : Thread Cert.FlashIdeal.nD Cert.FlashIdeal.τ).loc Cert.FlashIdeal.main_arg2) = m ((c.tc : Thread Cert.FlashIdeal.nD Cert.FlashIdeal.τ).loc Cert.FlashIdeal.main_arg2)
      ∧ r.2.mem ((c.tc : Thread Cert.FlashIdeal.nD Cert.FlashIdeal.τ).loc Cert.FlashIdeal.main_arg3) = m ((c.tc : Thread Cert.FlashIdeal.nD Cert.FlashIdeal.τ).loc Cert.FlashIdeal.main_arg3)
      ∧ r.2.mem ((c.tc : Thread Cert.FlashIdeal.nD Cert.FlashIdeal.τ).loc Cert.FlashIdeal.main_arg4) = m ((c.tc : Thread Cert.FlashIdeal.nD Cert.FlashIdeal.τ).loc Cert.FlashIdeal.main_arg4)
      ∧ r.2.mem ((c.tc : Thread Cert.FlashIdeal.nD Cert.FlashIdeal.τ).loc Cert.FlashIdeal.main_arg5) = m ((c.tc : Thread Cert.FlashIdeal.nD Cert.FlashIdeal.τ).loc Cert.FlashIdeal.main_arg5))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnIdeal_pre_finite_scores [hAttnIdeal : Cert.AttnIdeal.Facts] [hPre_finite_scores : Cert.Pre_finite_scores.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_scores m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1)
      ∧ r.2.mem ((c.tc : Thread Cert.Final.nD Cert.Final.τ).loc Cert.Final.main_arg2) = m ((c.tc : Thread Cert.Final.nD Cert.Final.τ).loc Cert.Final.main_arg2)
      ∧ r.2.mem ((c.tc : Thread Cert.Final.nD Cert.Final.τ).loc Cert.Final.main_arg3) = m ((c.tc : Thread Cert.Final.nD Cert.Final.τ).loc Cert.Final.main_arg3))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
      ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3))
      ∧ r.2.sem = fun _ => 0)

def quiescent_FinalRefIdeal [hFinalRefIdeal : Cert.FinalRefIdeal.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1)
      ∧ r.2.mem ((c.tc : Thread Cert.FinalRefIdeal.nD Cert.FinalRefIdeal.τ).loc Cert.FinalRefIdeal.main_arg2) = m ((c.tc : Thread Cert.FinalRefIdeal.nD Cert.FinalRefIdeal.τ).loc Cert.FinalRefIdeal.main_arg2)
      ∧ r.2.mem ((c.tc : Thread Cert.FinalRefIdeal.nD Cert.FinalRefIdeal.τ).loc Cert.FinalRefIdeal.main_arg3) = m ((c.tc : Thread Cert.FinalRefIdeal.nD Cert.FinalRefIdeal.τ).loc Cert.FinalRefIdeal.main_arg3))
      ∧ r.2.sem = fun _ => 0)

def quiescent_MlaIn [hMlaIn : Cert.MlaIn.Facts] : Prop :=
  ∀ (m : (ℓ : Loc Cert.MlaIn.nD Cert.MlaIn.τ Cert.MlaIn.sig) → Buf (Elt Bits) ℓ) (g : Dev Cert.MlaIn.nD → PrngReg), Pre_MlaIn m →
    θ_run (Cert.MlaIn.defs (F := Bits)) (onTc (τ := Cert.MlaIn.τ) (Cert.MlaIn.main (F := Bits))) ⟨m, fun _ => 0, g⟩ (fun r => (∀ c : Dev Cert.MlaIn.nD,
      r.2.mem ((c.tc : Thread Cert.MlaIn.nD Cert.MlaIn.τ).loc Cert.MlaIn.main_arg0) = m ((c.tc : Thread Cert.MlaIn.nD Cert.MlaIn.τ).loc Cert.MlaIn.main_arg0)
      ∧ r.2.mem ((c.tc : Thread Cert.MlaIn.nD Cert.MlaIn.τ).loc Cert.MlaIn.main_arg1) = m ((c.tc : Thread Cert.MlaIn.nD Cert.MlaIn.τ).loc Cert.MlaIn.main_arg1)
      ∧ r.2.mem ((c.tc : Thread Cert.MlaIn.nD Cert.MlaIn.τ).loc Cert.MlaIn.main_arg2) = m ((c.tc : Thread Cert.MlaIn.nD Cert.MlaIn.τ).loc Cert.MlaIn.main_arg2)
      ∧ r.2.mem ((c.tc : Thread Cert.MlaIn.nD Cert.MlaIn.τ).loc Cert.MlaIn.main_arg3) = m ((c.tc : Thread Cert.MlaIn.nD Cert.MlaIn.τ).loc Cert.MlaIn.main_arg3)
      ∧ r.2.mem ((c.tc : Thread Cert.MlaIn.nD Cert.MlaIn.τ).loc Cert.MlaIn.main_arg4) = m ((c.tc : Thread Cert.MlaIn.nD Cert.MlaIn.τ).loc Cert.MlaIn.main_arg4)
      ∧ r.2.mem ((c.tc : Thread Cert.MlaIn.nD Cert.MlaIn.τ).loc Cert.MlaIn.main_arg5) = m ((c.tc : Thread Cert.MlaIn.nD Cert.MlaIn.τ).loc Cert.MlaIn.main_arg5)
      ∧ r.2.mem ((c.tc : Thread Cert.MlaIn.nD Cert.MlaIn.τ).loc Cert.MlaIn.main_arg6) = m ((c.tc : Thread Cert.MlaIn.nD Cert.MlaIn.τ).loc Cert.MlaIn.main_arg6)
      ∧ r.2.mem ((c.tc : Thread Cert.MlaIn.nD Cert.MlaIn.τ).loc Cert.MlaIn.main_arg7) = m ((c.tc : Thread Cert.MlaIn.nD Cert.MlaIn.τ).loc Cert.MlaIn.main_arg7)
      ∧ r.2.mem ((c.tc : Thread Cert.MlaIn.nD Cert.MlaIn.τ).loc Cert.MlaIn.main_arg8) = m ((c.tc : Thread Cert.MlaIn.nD Cert.MlaIn.τ).loc Cert.MlaIn.main_arg8))
      ∧ r.2.sem = fun _ => 0)

def quiescent_MlaInIdeal [hMlaInIdeal : Cert.MlaInIdeal.Facts] : Prop :=
  ∀ (m : (ℓ : Loc Cert.MlaInIdeal.nD Cert.MlaInIdeal.τ Cert.MlaInIdeal.sig) → Buf (Elt Ideal) ℓ) (g : Dev Cert.MlaInIdeal.nD → PrngReg), Pre_MlaInIdeal m →
    θ_run (Cert.MlaInIdeal.defs (F := Ideal)) (onTc (τ := Cert.MlaInIdeal.τ) (Cert.MlaInIdeal.main (F := Ideal))) ⟨m, fun _ => 0, g⟩ (fun r => (∀ c : Dev Cert.MlaInIdeal.nD,
      r.2.mem ((c.tc : Thread Cert.MlaInIdeal.nD Cert.MlaInIdeal.τ).loc Cert.MlaInIdeal.main_arg0) = m ((c.tc : Thread Cert.MlaInIdeal.nD Cert.MlaInIdeal.τ).loc Cert.MlaInIdeal.main_arg0)
      ∧ r.2.mem ((c.tc : Thread Cert.MlaInIdeal.nD Cert.MlaInIdeal.τ).loc Cert.MlaInIdeal.main_arg1) = m ((c.tc : Thread Cert.MlaInIdeal.nD Cert.MlaInIdeal.τ).loc Cert.MlaInIdeal.main_arg1)
      ∧ r.2.mem ((c.tc : Thread Cert.MlaInIdeal.nD Cert.MlaInIdeal.τ).loc Cert.MlaInIdeal.main_arg2) = m ((c.tc : Thread Cert.MlaInIdeal.nD Cert.MlaInIdeal.τ).loc Cert.MlaInIdeal.main_arg2)
      ∧ r.2.mem ((c.tc : Thread Cert.MlaInIdeal.nD Cert.MlaInIdeal.τ).loc Cert.MlaInIdeal.main_arg3) = m ((c.tc : Thread Cert.MlaInIdeal.nD Cert.MlaInIdeal.τ).loc Cert.MlaInIdeal.main_arg3)
      ∧ r.2.mem ((c.tc : Thread Cert.MlaInIdeal.nD Cert.MlaInIdeal.τ).loc Cert.MlaInIdeal.main_arg4) = m ((c.tc : Thread Cert.MlaInIdeal.nD Cert.MlaInIdeal.τ).loc Cert.MlaInIdeal.main_arg4)
      ∧ r.2.mem ((c.tc : Thread Cert.MlaInIdeal.nD Cert.MlaInIdeal.τ).loc Cert.MlaInIdeal.main_arg5) = m ((c.tc : Thread Cert.MlaInIdeal.nD Cert.MlaInIdeal.τ).loc Cert.MlaInIdeal.main_arg5)
      ∧ r.2.mem ((c.tc : Thread Cert.MlaInIdeal.nD Cert.MlaInIdeal.τ).loc Cert.MlaInIdeal.main_arg6) = m ((c.tc : Thread Cert.MlaInIdeal.nD Cert.MlaInIdeal.τ).loc Cert.MlaInIdeal.main_arg6)
      ∧ r.2.mem ((c.tc : Thread Cert.MlaInIdeal.nD Cert.MlaInIdeal.τ).loc Cert.MlaInIdeal.main_arg7) = m ((c.tc : Thread Cert.MlaInIdeal.nD Cert.MlaInIdeal.τ).loc Cert.MlaInIdeal.main_arg7)
      ∧ r.2.mem ((c.tc : Thread Cert.MlaInIdeal.nD Cert.MlaInIdeal.τ).loc Cert.MlaInIdeal.main_arg8) = m ((c.tc : Thread Cert.MlaInIdeal.nD Cert.MlaInIdeal.τ).loc Cert.MlaInIdeal.main_arg8))
      ∧ r.2.sem = fun _ => 0)

def quiescent_MlaInRefIdeal [hMlaInRefIdeal : Cert.MlaInRefIdeal.Facts] : Prop :=
  ∀ (m : (ℓ : Loc Cert.MlaInRefIdeal.nD Cert.MlaInRefIdeal.τ Cert.MlaInRefIdeal.sig) → Buf (Elt Ideal) ℓ) (g : Dev Cert.MlaInRefIdeal.nD → PrngReg), Pre_MlaInRefIdeal m →
    θ_run (Cert.MlaInRefIdeal.defs (F := Ideal)) (onTc (τ := Cert.MlaInRefIdeal.τ) (Cert.MlaInRefIdeal.main (F := Ideal))) ⟨m, fun _ => 0, g⟩ (fun r => (∀ c : Dev Cert.MlaInRefIdeal.nD,
      r.2.mem ((c.tc : Thread Cert.MlaInRefIdeal.nD Cert.MlaInRefIdeal.τ).loc Cert.MlaInRefIdeal.main_arg0) = m ((c.tc : Thread Cert.MlaInRefIdeal.nD Cert.MlaInRefIdeal.τ).loc Cert.MlaInRefIdeal.main_arg0)
      ∧ r.2.mem ((c.tc : Thread Cert.MlaInRefIdeal.nD Cert.MlaInRefIdeal.τ).loc Cert.MlaInRefIdeal.main_arg1) = m ((c.tc : Thread Cert.MlaInRefIdeal.nD Cert.MlaInRefIdeal.τ).loc Cert.MlaInRefIdeal.main_arg1)
      ∧ r.2.mem ((c.tc : Thread Cert.MlaInRefIdeal.nD Cert.MlaInRefIdeal.τ).loc Cert.MlaInRefIdeal.main_arg2) = m ((c.tc : Thread Cert.MlaInRefIdeal.nD Cert.MlaInRefIdeal.τ).loc Cert.MlaInRefIdeal.main_arg2)
      ∧ r.2.mem ((c.tc : Thread Cert.MlaInRefIdeal.nD Cert.MlaInRefIdeal.τ).loc Cert.MlaInRefIdeal.main_arg3) = m ((c.tc : Thread Cert.MlaInRefIdeal.nD Cert.MlaInRefIdeal.τ).loc Cert.MlaInRefIdeal.main_arg3)
      ∧ r.2.mem ((c.tc : Thread Cert.MlaInRefIdeal.nD Cert.MlaInRefIdeal.τ).loc Cert.MlaInRefIdeal.main_arg4) = m ((c.tc : Thread Cert.MlaInRefIdeal.nD Cert.MlaInRefIdeal.τ).loc Cert.MlaInRefIdeal.main_arg4)
      ∧ r.2.mem ((c.tc : Thread Cert.MlaInRefIdeal.nD Cert.MlaInRefIdeal.τ).loc Cert.MlaInRefIdeal.main_arg5) = m ((c.tc : Thread Cert.MlaInRefIdeal.nD Cert.MlaInRefIdeal.τ).loc Cert.MlaInRefIdeal.main_arg5)
      ∧ r.2.mem ((c.tc : Thread Cert.MlaInRefIdeal.nD Cert.MlaInRefIdeal.τ).loc Cert.MlaInRefIdeal.main_arg6) = m ((c.tc : Thread Cert.MlaInRefIdeal.nD Cert.MlaInRefIdeal.τ).loc Cert.MlaInRefIdeal.main_arg6)
      ∧ r.2.mem ((c.tc : Thread Cert.MlaInRefIdeal.nD Cert.MlaInRefIdeal.τ).loc Cert.MlaInRefIdeal.main_arg7) = m ((c.tc : Thread Cert.MlaInRefIdeal.nD Cert.MlaInRefIdeal.τ).loc Cert.MlaInRefIdeal.main_arg7)
      ∧ r.2.mem ((c.tc : Thread Cert.MlaInRefIdeal.nD Cert.MlaInRefIdeal.τ).loc Cert.MlaInRefIdeal.main_arg8) = m ((c.tc : Thread Cert.MlaInRefIdeal.nD Cert.MlaInRefIdeal.τ).loc Cert.MlaInRefIdeal.main_arg8))
      ∧ r.2.sem = fun _ => 0)

def quiescent_SwaIn [hSwaIn : Cert.SwaIn.Facts] : Prop :=
  ∀ (m : (ℓ : Loc Cert.SwaIn.nD Cert.SwaIn.τ Cert.SwaIn.sig) → Buf (Elt Bits) ℓ) (g : Dev Cert.SwaIn.nD → PrngReg), Pre_SwaIn m →
    θ_run (Cert.SwaIn.defs (F := Bits)) (onTc (τ := Cert.SwaIn.τ) (Cert.SwaIn.main (F := Bits))) ⟨m, fun _ => 0, g⟩ (fun r => (∀ c : Dev Cert.SwaIn.nD,
      r.2.mem ((c.tc : Thread Cert.SwaIn.nD Cert.SwaIn.τ).loc Cert.SwaIn.main_arg0) = m ((c.tc : Thread Cert.SwaIn.nD Cert.SwaIn.τ).loc Cert.SwaIn.main_arg0)
      ∧ r.2.mem ((c.tc : Thread Cert.SwaIn.nD Cert.SwaIn.τ).loc Cert.SwaIn.main_arg1) = m ((c.tc : Thread Cert.SwaIn.nD Cert.SwaIn.τ).loc Cert.SwaIn.main_arg1)
      ∧ r.2.mem ((c.tc : Thread Cert.SwaIn.nD Cert.SwaIn.τ).loc Cert.SwaIn.main_arg2) = m ((c.tc : Thread Cert.SwaIn.nD Cert.SwaIn.τ).loc Cert.SwaIn.main_arg2)
      ∧ r.2.mem ((c.tc : Thread Cert.SwaIn.nD Cert.SwaIn.τ).loc Cert.SwaIn.main_arg3) = m ((c.tc : Thread Cert.SwaIn.nD Cert.SwaIn.τ).loc Cert.SwaIn.main_arg3)
      ∧ r.2.mem ((c.tc : Thread Cert.SwaIn.nD Cert.SwaIn.τ).loc Cert.SwaIn.main_arg4) = m ((c.tc : Thread Cert.SwaIn.nD Cert.SwaIn.τ).loc Cert.SwaIn.main_arg4))
      ∧ r.2.sem = fun _ => 0)

def quiescent_SwaInIdeal [hSwaInIdeal : Cert.SwaInIdeal.Facts] : Prop :=
  ∀ (m : (ℓ : Loc Cert.SwaInIdeal.nD Cert.SwaInIdeal.τ Cert.SwaInIdeal.sig) → Buf (Elt Ideal) ℓ) (g : Dev Cert.SwaInIdeal.nD → PrngReg), Pre_SwaInIdeal m →
    θ_run (Cert.SwaInIdeal.defs (F := Ideal)) (onTc (τ := Cert.SwaInIdeal.τ) (Cert.SwaInIdeal.main (F := Ideal))) ⟨m, fun _ => 0, g⟩ (fun r => (∀ c : Dev Cert.SwaInIdeal.nD,
      r.2.mem ((c.tc : Thread Cert.SwaInIdeal.nD Cert.SwaInIdeal.τ).loc Cert.SwaInIdeal.main_arg0) = m ((c.tc : Thread Cert.SwaInIdeal.nD Cert.SwaInIdeal.τ).loc Cert.SwaInIdeal.main_arg0)
      ∧ r.2.mem ((c.tc : Thread Cert.SwaInIdeal.nD Cert.SwaInIdeal.τ).loc Cert.SwaInIdeal.main_arg1) = m ((c.tc : Thread Cert.SwaInIdeal.nD Cert.SwaInIdeal.τ).loc Cert.SwaInIdeal.main_arg1)
      ∧ r.2.mem ((c.tc : Thread Cert.SwaInIdeal.nD Cert.SwaInIdeal.τ).loc Cert.SwaInIdeal.main_arg2) = m ((c.tc : Thread Cert.SwaInIdeal.nD Cert.SwaInIdeal.τ).loc Cert.SwaInIdeal.main_arg2)
      ∧ r.2.mem ((c.tc : Thread Cert.SwaInIdeal.nD Cert.SwaInIdeal.τ).loc Cert.SwaInIdeal.main_arg3) = m ((c.tc : Thread Cert.SwaInIdeal.nD Cert.SwaInIdeal.τ).loc Cert.SwaInIdeal.main_arg3)
      ∧ r.2.mem ((c.tc : Thread Cert.SwaInIdeal.nD Cert.SwaInIdeal.τ).loc Cert.SwaInIdeal.main_arg4) = m ((c.tc : Thread Cert.SwaInIdeal.nD Cert.SwaInIdeal.τ).loc Cert.SwaInIdeal.main_arg4))
      ∧ r.2.sem = fun _ => 0)

def quiescent_SwaInRefIdeal [hSwaInRefIdeal : Cert.SwaInRefIdeal.Facts] : Prop :=
  ∀ (m : (ℓ : Loc Cert.SwaInRefIdeal.nD Cert.SwaInRefIdeal.τ Cert.SwaInRefIdeal.sig) → Buf (Elt Ideal) ℓ) (g : Dev Cert.SwaInRefIdeal.nD → PrngReg), Pre_SwaInRefIdeal m →
    θ_run (Cert.SwaInRefIdeal.defs (F := Ideal)) (onTc (τ := Cert.SwaInRefIdeal.τ) (Cert.SwaInRefIdeal.main (F := Ideal))) ⟨m, fun _ => 0, g⟩ (fun r => (∀ c : Dev Cert.SwaInRefIdeal.nD,
      r.2.mem ((c.tc : Thread Cert.SwaInRefIdeal.nD Cert.SwaInRefIdeal.τ).loc Cert.SwaInRefIdeal.main_arg0) = m ((c.tc : Thread Cert.SwaInRefIdeal.nD Cert.SwaInRefIdeal.τ).loc Cert.SwaInRefIdeal.main_arg0)
      ∧ r.2.mem ((c.tc : Thread Cert.SwaInRefIdeal.nD Cert.SwaInRefIdeal.τ).loc Cert.SwaInRefIdeal.main_arg1) = m ((c.tc : Thread Cert.SwaInRefIdeal.nD Cert.SwaInRefIdeal.τ).loc Cert.SwaInRefIdeal.main_arg1)
      ∧ r.2.mem ((c.tc : Thread Cert.SwaInRefIdeal.nD Cert.SwaInRefIdeal.τ).loc Cert.SwaInRefIdeal.main_arg2) = m ((c.tc : Thread Cert.SwaInRefIdeal.nD Cert.SwaInRefIdeal.τ).loc Cert.SwaInRefIdeal.main_arg2)
      ∧ r.2.mem ((c.tc : Thread Cert.SwaInRefIdeal.nD Cert.SwaInRefIdeal.τ).loc Cert.SwaInRefIdeal.main_arg3) = m ((c.tc : Thread Cert.SwaInRefIdeal.nD Cert.SwaInRefIdeal.τ).loc Cert.SwaInRefIdeal.main_arg3)
      ∧ r.2.mem ((c.tc : Thread Cert.SwaInRefIdeal.nD Cert.SwaInRefIdeal.τ).loc Cert.SwaInRefIdeal.main_arg4) = m ((c.tc : Thread Cert.SwaInRefIdeal.nD Cert.SwaInRefIdeal.τ).loc Cert.SwaInRefIdeal.main_arg4))
      ∧ r.2.sem = fun _ => 0)

def preserves_Flash_FlashIdeal : Prop :=
  IdealRules.named_const.Statement Cert.FlashIdeal.κ "mask" .f32 0xF149F2CA#32 ⊥

def algebraic_FlashIdeal_AttnIdeal_pre_finite_scores [hFlashIdeal : Cert.FlashIdeal.Facts] [hAttnIdeal : Cert.AttnIdeal.Facts] [hPre_finite_scores : Cert.Pre_finite_scores.Facts] : Prop :=
  ∀ (m : (ℓ : Loc Cert.FlashIdeal.nD Cert.FlashIdeal.τ Cert.FlashIdeal.sig) → Buf (Elt Ideal) ℓ) (g : Dev Cert.FlashIdeal.nD → PrngReg)
    (m' : (ℓ : Loc Cert.AttnIdeal.nD Cert.AttnIdeal.τ Cert.AttnIdeal.sig) → Buf (Elt Ideal) ℓ) (g' : Dev Cert.AttnIdeal.nD → PrngReg), Pre_FlashIdeal_finite_scores m →
    (∀ c : Dev Cert.FlashIdeal.nD,
      m' ((c.tc : Thread Cert.AttnIdeal.nD Cert.AttnIdeal.τ).loc Cert.AttnIdeal.main_arg0) = m ((c.tc : Thread Cert.FlashIdeal.nD Cert.FlashIdeal.τ).loc Cert.FlashIdeal.main_arg0)
      ∧ m' ((c.tc : Thread Cert.AttnIdeal.nD Cert.AttnIdeal.τ).loc Cert.AttnIdeal.main_arg1) = m ((c.tc : Thread Cert.FlashIdeal.nD Cert.FlashIdeal.τ).loc Cert.FlashIdeal.main_arg1)
      ∧ m' ((c.tc : Thread Cert.AttnIdeal.nD Cert.AttnIdeal.τ).loc Cert.AttnIdeal.main_arg2) = m ((c.tc : Thread Cert.FlashIdeal.nD Cert.FlashIdeal.τ).loc Cert.FlashIdeal.main_arg2)
      ∧ m' ((c.tc : Thread Cert.AttnIdeal.nD Cert.AttnIdeal.τ).loc Cert.AttnIdeal.main_arg3) = m ((c.tc : Thread Cert.FlashIdeal.nD Cert.FlashIdeal.τ).loc Cert.FlashIdeal.main_arg3)
      ∧ m' ((c.tc : Thread Cert.AttnIdeal.nD Cert.AttnIdeal.τ).loc Cert.AttnIdeal.main_arg4) = m ((c.tc : Thread Cert.FlashIdeal.nD Cert.FlashIdeal.τ).loc Cert.FlashIdeal.main_arg4)
      ∧ m' ((c.tc : Thread Cert.AttnIdeal.nD Cert.AttnIdeal.τ).loc Cert.AttnIdeal.main_arg5) = m ((c.tc : Thread Cert.FlashIdeal.nD Cert.FlashIdeal.τ).loc Cert.FlashIdeal.main_arg5)) →
    ∃ (v0 : (c : Dev Cert.FlashIdeal.nD) → Buf (Elt Ideal) ((c.tc : Thread Cert.FlashIdeal.nD Cert.FlashIdeal.τ).loc Cert.FlashIdeal.main_v8)),
      θ_run (Cert.FlashIdeal.defs (F := Ideal)) (onTc (τ := Cert.FlashIdeal.τ) (Cert.FlashIdeal.main (F := Ideal))) ⟨m, fun _ => 0, g⟩ (fun r => ∀ c : Dev Cert.FlashIdeal.nD,
          r.2.mem ((c.tc : Thread Cert.FlashIdeal.nD Cert.FlashIdeal.τ).loc Cert.FlashIdeal.main_v8) = v0 c
          ∧ r.2.mem ((c.tc : Thread Cert.FlashIdeal.nD Cert.FlashIdeal.τ).loc Cert.FlashIdeal.main_arg0) = m ((c.tc : Thread Cert.FlashIdeal.nD Cert.FlashIdeal.τ).loc Cert.FlashIdeal.main_arg0)
          ∧ r.2.mem ((c.tc : Thread Cert.FlashIdeal.nD Cert.FlashIdeal.τ).loc Cert.FlashIdeal.main_arg1) = m ((c.tc : Thread Cert.FlashIdeal.nD Cert.FlashIdeal.τ).loc Cert.FlashIdeal.main_arg1)
          ∧ r.2.mem ((c.tc : Thread Cert.FlashIdeal.nD Cert.FlashIdeal.τ).loc Cert.FlashIdeal.main_arg2) = m ((c.tc : Thread Cert.FlashIdeal.nD Cert.FlashIdeal.τ).loc Cert.FlashIdeal.main_arg2)
          ∧ r.2.mem ((c.tc : Thread Cert.FlashIdeal.nD Cert.FlashIdeal.τ).loc Cert.FlashIdeal.main_arg3) = m ((c.tc : Thread Cert.FlashIdeal.nD Cert.FlashIdeal.τ).loc Cert.FlashIdeal.main_arg3)
          ∧ r.2.mem ((c.tc : Thread Cert.FlashIdeal.nD Cert.FlashIdeal.τ).loc Cert.FlashIdeal.main_arg4) = m ((c.tc : Thread Cert.FlashIdeal.nD Cert.FlashIdeal.τ).loc Cert.FlashIdeal.main_arg4)
          ∧ r.2.mem ((c.tc : Thread Cert.FlashIdeal.nD Cert.FlashIdeal.τ).loc Cert.FlashIdeal.main_arg5) = m ((c.tc : Thread Cert.FlashIdeal.nD Cert.FlashIdeal.τ).loc Cert.FlashIdeal.main_arg5))
      ∧ θ_run (Cert.AttnIdeal.defs (F := Ideal)) (onTc (τ := Cert.AttnIdeal.τ) (Cert.AttnIdeal.main (F := Ideal))) ⟨m', fun _ => 0, g'⟩ (fun r => ∀ c : Dev Cert.AttnIdeal.nD,
          r.2.mem ((c.tc : Thread Cert.AttnIdeal.nD Cert.AttnIdeal.τ).loc Cert.AttnIdeal.main_v37) = v0 c
          ∧ r.2.mem ((c.tc : Thread Cert.AttnIdeal.nD Cert.AttnIdeal.τ).loc Cert.AttnIdeal.main_arg0) = m' ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m' ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m' ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m' ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m' ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m' ((c.tc : Thread Cert.AttnIdeal.nD Cert.AttnIdeal.τ).loc Cert.AttnIdeal.main_arg5))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v2)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v2) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v2) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3))

def preserves_Final_FinalIdeal : Prop :=
  True

def algebraic_FinalIdeal_FinalRefIdeal [hFinalIdeal : Cert.FinalIdeal.Facts] [hFinalRefIdeal : Cert.FinalRefIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalRefIdeal.nD Cert.FinalRefIdeal.τ Cert.FinalRefIdeal.sig) → Buf (Elt Ideal) ℓ) (g' : Dev Cert.FinalRefIdeal.nD → PrngReg), Pre_FinalIdeal m →
    (∀ c : Dev Cert.FinalIdeal.nD,
      m' ((c.tc : Thread Cert.FinalRefIdeal.nD Cert.FinalRefIdeal.τ).loc Cert.FinalRefIdeal.main_arg0) = m ((c.tc : Thread Cert.FinalIdeal.nD Cert.FinalIdeal.τ).loc Cert.FinalIdeal.main_arg0)
      ∧ m' ((c.tc : Thread Cert.FinalRefIdeal.nD Cert.FinalRefIdeal.τ).loc Cert.FinalRefIdeal.main_arg1) = m ((c.tc : Thread Cert.FinalIdeal.nD Cert.FinalIdeal.τ).loc Cert.FinalIdeal.main_arg1)
      ∧ m' ((c.tc : Thread Cert.FinalRefIdeal.nD Cert.FinalRefIdeal.τ).loc Cert.FinalRefIdeal.main_arg2) = m ((c.tc : Thread Cert.FinalIdeal.nD Cert.FinalIdeal.τ).loc Cert.FinalIdeal.main_arg2)
      ∧ m' ((c.tc : Thread Cert.FinalRefIdeal.nD Cert.FinalRefIdeal.τ).loc Cert.FinalRefIdeal.main_arg3) = m ((c.tc : Thread Cert.FinalIdeal.nD Cert.FinalIdeal.τ).loc Cert.FinalIdeal.main_arg3)) →
    ∃ (v0 : (c : Dev Cert.FinalIdeal.nD) → Buf (Elt Ideal) ((c.tc : Thread Cert.FinalIdeal.nD Cert.FinalIdeal.τ).loc Cert.FinalIdeal.main_v2)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v2) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
          ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
          ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3))
      ∧ θ_run (Cert.FinalRefIdeal.defs (F := Ideal)) (onTc (τ := Cert.FinalRefIdeal.τ) (Cert.FinalRefIdeal.main (F := Ideal))) ⟨m', fun _ => 0, g'⟩ (fun r => ∀ c : Dev Cert.FinalRefIdeal.nD,
          r.2.mem ((c.tc : Thread Cert.FinalRefIdeal.nD Cert.FinalRefIdeal.τ).loc Cert.FinalRefIdeal.main_v15) = v0 c
          ∧ r.2.mem ((c.tc : Thread Cert.FinalRefIdeal.nD Cert.FinalRefIdeal.τ).loc Cert.FinalRefIdeal.main_arg0) = m' ((c.tc : Thread Cert.FinalRefIdeal.nD Cert.FinalRefIdeal.τ).loc Cert.FinalRefIdeal.main_arg0)
          ∧ r.2.mem ((c.tc : Thread Cert.FinalRefIdeal.nD Cert.FinalRefIdeal.τ).loc Cert.FinalRefIdeal.main_arg1) = m' ((c.tc : Thread Cert.FinalRefIdeal.nD Cert.FinalRefIdeal.τ).loc Cert.FinalRefIdeal.main_arg1)
          ∧ r.2.mem ((c.tc : Thread Cert.FinalRefIdeal.nD Cert.FinalRefIdeal.τ).loc Cert.FinalRefIdeal.main_arg2) = m' ((c.tc : Thread Cert.FinalRefIdeal.nD Cert.FinalRefIdeal.τ).loc Cert.FinalRefIdeal.main_arg2)
          ∧ r.2.mem ((c.tc : Thread Cert.FinalRefIdeal.nD Cert.FinalRefIdeal.τ).loc Cert.FinalRefIdeal.main_arg3) = m' ((c.tc : Thread Cert.FinalRefIdeal.nD Cert.FinalRefIdeal.τ).loc Cert.FinalRefIdeal.main_arg3))

def preserves_MlaIn_MlaInIdeal : Prop :=
  True

def algebraic_MlaInIdeal_MlaInRefIdeal [hMlaInIdeal : Cert.MlaInIdeal.Facts] [hMlaInRefIdeal : Cert.MlaInRefIdeal.Facts] : Prop :=
  ∀ (m : (ℓ : Loc Cert.MlaInIdeal.nD Cert.MlaInIdeal.τ Cert.MlaInIdeal.sig) → Buf (Elt Ideal) ℓ) (g : Dev Cert.MlaInIdeal.nD → PrngReg)
    (m' : (ℓ : Loc Cert.MlaInRefIdeal.nD Cert.MlaInRefIdeal.τ Cert.MlaInRefIdeal.sig) → Buf (Elt Ideal) ℓ) (g' : Dev Cert.MlaInRefIdeal.nD → PrngReg), Pre_MlaInIdeal m →
    (∀ c : Dev Cert.MlaInIdeal.nD,
      m' ((c.tc : Thread Cert.MlaInRefIdeal.nD Cert.MlaInRefIdeal.τ).loc Cert.MlaInRefIdeal.main_arg0) = m ((c.tc : Thread Cert.MlaInIdeal.nD Cert.MlaInIdeal.τ).loc Cert.MlaInIdeal.main_arg0)
      ∧ m' ((c.tc : Thread Cert.MlaInRefIdeal.nD Cert.MlaInRefIdeal.τ).loc Cert.MlaInRefIdeal.main_arg1) = m ((c.tc : Thread Cert.MlaInIdeal.nD Cert.MlaInIdeal.τ).loc Cert.MlaInIdeal.main_arg1)
      ∧ m' ((c.tc : Thread Cert.MlaInRefIdeal.nD Cert.MlaInRefIdeal.τ).loc Cert.MlaInRefIdeal.main_arg2) = m ((c.tc : Thread Cert.MlaInIdeal.nD Cert.MlaInIdeal.τ).loc Cert.MlaInIdeal.main_arg2)
      ∧ m' ((c.tc : Thread Cert.MlaInRefIdeal.nD Cert.MlaInRefIdeal.τ).loc Cert.MlaInRefIdeal.main_arg3) = m ((c.tc : Thread Cert.MlaInIdeal.nD Cert.MlaInIdeal.τ).loc Cert.MlaInIdeal.main_arg3)
      ∧ m' ((c.tc : Thread Cert.MlaInRefIdeal.nD Cert.MlaInRefIdeal.τ).loc Cert.MlaInRefIdeal.main_arg4) = m ((c.tc : Thread Cert.MlaInIdeal.nD Cert.MlaInIdeal.τ).loc Cert.MlaInIdeal.main_arg4)
      ∧ m' ((c.tc : Thread Cert.MlaInRefIdeal.nD Cert.MlaInRefIdeal.τ).loc Cert.MlaInRefIdeal.main_arg5) = m ((c.tc : Thread Cert.MlaInIdeal.nD Cert.MlaInIdeal.τ).loc Cert.MlaInIdeal.main_arg5)
      ∧ m' ((c.tc : Thread Cert.MlaInRefIdeal.nD Cert.MlaInRefIdeal.τ).loc Cert.MlaInRefIdeal.main_arg6) = m ((c.tc : Thread Cert.MlaInIdeal.nD Cert.MlaInIdeal.τ).loc Cert.MlaInIdeal.main_arg6)
      ∧ m' ((c.tc : Thread Cert.MlaInRefIdeal.nD Cert.MlaInRefIdeal.τ).loc Cert.MlaInRefIdeal.main_arg7) = m ((c.tc : Thread Cert.MlaInIdeal.nD Cert.MlaInIdeal.τ).loc Cert.MlaInIdeal.main_arg7)
      ∧ m' ((c.tc : Thread Cert.MlaInRefIdeal.nD Cert.MlaInRefIdeal.τ).loc Cert.MlaInRefIdeal.main_arg8) = m ((c.tc : Thread Cert.MlaInIdeal.nD Cert.MlaInIdeal.τ).loc Cert.MlaInIdeal.main_arg8)) →
    ∃ (v0 : (c : Dev Cert.MlaInIdeal.nD) → Buf (Elt Ideal) ((c.tc : Thread Cert.MlaInIdeal.nD Cert.MlaInIdeal.τ).loc Cert.MlaInIdeal.main_v30_0)) (v1 : (c : Dev Cert.MlaInIdeal.nD) → Buf (Elt Ideal) ((c.tc : Thread Cert.MlaInIdeal.nD Cert.MlaInIdeal.τ).loc Cert.MlaInIdeal.main_v30_1)) (v2 : (c : Dev Cert.MlaInIdeal.nD) → Buf (Elt Ideal) ((c.tc : Thread Cert.MlaInIdeal.nD Cert.MlaInIdeal.τ).loc Cert.MlaInIdeal.main_v30_2)) (v3 : (c : Dev Cert.MlaInIdeal.nD) → Buf (Elt Ideal) ((c.tc : Thread Cert.MlaInIdeal.nD Cert.MlaInIdeal.τ).loc Cert.MlaInIdeal.main_v30_3)) (v4 : (c : Dev Cert.MlaInIdeal.nD) → Buf (Elt Ideal) ((c.tc : Thread Cert.MlaInIdeal.nD Cert.MlaInIdeal.τ).loc Cert.MlaInIdeal.main_v30_4)) (v5 : (c : Dev Cert.MlaInIdeal.nD) → Buf (Elt Ideal) ((c.tc : Thread Cert.MlaInIdeal.nD Cert.MlaInIdeal.τ).loc Cert.MlaInIdeal.main_v30_5)),
      θ_run (Cert.MlaInIdeal.defs (F := Ideal)) (onTc (τ := Cert.MlaInIdeal.τ) (Cert.MlaInIdeal.main (F := Ideal))) ⟨m, fun _ => 0, g⟩ (fun r => ∀ c : Dev Cert.MlaInIdeal.nD,
          r.2.mem ((c.tc : Thread Cert.MlaInIdeal.nD Cert.MlaInIdeal.τ).loc Cert.MlaInIdeal.main_v30_0) = v0 c
          ∧ r.2.mem ((c.tc : Thread Cert.MlaInIdeal.nD Cert.MlaInIdeal.τ).loc Cert.MlaInIdeal.main_v30_1) = v1 c
          ∧ r.2.mem ((c.tc : Thread Cert.MlaInIdeal.nD Cert.MlaInIdeal.τ).loc Cert.MlaInIdeal.main_v30_2) = v2 c
          ∧ r.2.mem ((c.tc : Thread Cert.MlaInIdeal.nD Cert.MlaInIdeal.τ).loc Cert.MlaInIdeal.main_v30_3) = v3 c
          ∧ r.2.mem ((c.tc : Thread Cert.MlaInIdeal.nD Cert.MlaInIdeal.τ).loc Cert.MlaInIdeal.main_v30_4) = v4 c
          ∧ r.2.mem ((c.tc : Thread Cert.MlaInIdeal.nD Cert.MlaInIdeal.τ).loc Cert.MlaInIdeal.main_v30_5) = v5 c
          ∧ r.2.mem ((c.tc : Thread Cert.MlaInIdeal.nD Cert.MlaInIdeal.τ).loc Cert.MlaInIdeal.main_arg0) = m ((c.tc : Thread Cert.MlaInIdeal.nD Cert.MlaInIdeal.τ).loc Cert.MlaInIdeal.main_arg0)
          ∧ r.2.mem ((c.tc : Thread Cert.MlaInIdeal.nD Cert.MlaInIdeal.τ).loc Cert.MlaInIdeal.main_arg1) = m ((c.tc : Thread Cert.MlaInIdeal.nD Cert.MlaInIdeal.τ).loc Cert.MlaInIdeal.main_arg1)
          ∧ r.2.mem ((c.tc : Thread Cert.MlaInIdeal.nD Cert.MlaInIdeal.τ).loc Cert.MlaInIdeal.main_arg2) = m ((c.tc : Thread Cert.MlaInIdeal.nD Cert.MlaInIdeal.τ).loc Cert.MlaInIdeal.main_arg2)
          ∧ r.2.mem ((c.tc : Thread Cert.MlaInIdeal.nD Cert.MlaInIdeal.τ).loc Cert.MlaInIdeal.main_arg3) = m ((c.tc : Thread Cert.MlaInIdeal.nD Cert.MlaInIdeal.τ).loc Cert.MlaInIdeal.main_arg3)
          ∧ r.2.mem ((c.tc : Thread Cert.MlaInIdeal.nD Cert.MlaInIdeal.τ).loc Cert.MlaInIdeal.main_arg4) = m ((c.tc : Thread Cert.MlaInIdeal.nD Cert.MlaInIdeal.τ).loc Cert.MlaInIdeal.main_arg4)
          ∧ r.2.mem ((c.tc : Thread Cert.MlaInIdeal.nD Cert.MlaInIdeal.τ).loc Cert.MlaInIdeal.main_arg5) = m ((c.tc : Thread Cert.MlaInIdeal.nD Cert.MlaInIdeal.τ).loc Cert.MlaInIdeal.main_arg5)
          ∧ r.2.mem ((c.tc : Thread Cert.MlaInIdeal.nD Cert.MlaInIdeal.τ).loc Cert.MlaInIdeal.main_arg6) = m ((c.tc : Thread Cert.MlaInIdeal.nD Cert.MlaInIdeal.τ).loc Cert.MlaInIdeal.main_arg6)
          ∧ r.2.mem ((c.tc : Thread Cert.MlaInIdeal.nD Cert.MlaInIdeal.τ).loc Cert.MlaInIdeal.main_arg7) = m ((c.tc : Thread Cert.MlaInIdeal.nD Cert.MlaInIdeal.τ).loc Cert.MlaInIdeal.main_arg7)
          ∧ r.2.mem ((c.tc : Thread Cert.MlaInIdeal.nD Cert.MlaInIdeal.τ).loc Cert.MlaInIdeal.main_arg8) = m ((c.tc : Thread Cert.MlaInIdeal.nD Cert.MlaInIdeal.τ).loc Cert.MlaInIdeal.main_arg8))
      ∧ θ_run (Cert.MlaInRefIdeal.defs (F := Ideal)) (onTc (τ := Cert.MlaInRefIdeal.τ) (Cert.MlaInRefIdeal.main (F := Ideal))) ⟨m', fun _ => 0, g'⟩ (fun r => ∀ c : Dev Cert.MlaInRefIdeal.nD,
          r.2.mem ((c.tc : Thread Cert.MlaInRefIdeal.nD Cert.MlaInRefIdeal.τ).loc Cert.MlaInRefIdeal.main_v88) = v0 c
          ∧ r.2.mem ((c.tc : Thread Cert.MlaInRefIdeal.nD Cert.MlaInRefIdeal.τ).loc Cert.MlaInRefIdeal.main_v90) = v1 c
          ∧ r.2.mem ((c.tc : Thread Cert.MlaInRefIdeal.nD Cert.MlaInRefIdeal.τ).loc Cert.MlaInRefIdeal.main_v92) = v2 c
          ∧ r.2.mem ((c.tc : Thread Cert.MlaInRefIdeal.nD Cert.MlaInRefIdeal.τ).loc Cert.MlaInRefIdeal.main_v94) = v3 c
          ∧ r.2.mem ((c.tc : Thread Cert.MlaInRefIdeal.nD Cert.MlaInRefIdeal.τ).loc Cert.MlaInRefIdeal.main_v96) = v4 c
          ∧ r.2.mem ((c.tc : Thread Cert.MlaInRefIdeal.nD Cert.MlaInRefIdeal.τ).loc Cert.MlaInRefIdeal.main_v98) = v5 c
          ∧ r.2.mem ((c.tc : Thread Cert.MlaInRefIdeal.nD Cert.MlaInRefIdeal.τ).loc Cert.MlaInRefIdeal.main_arg0) = m' ((c.tc : Thread Cert.MlaInRefIdeal.nD Cert.MlaInRefIdeal.τ).loc Cert.MlaInRefIdeal.main_arg0)
          ∧ r.2.mem ((c.tc : Thread Cert.MlaInRefIdeal.nD Cert.MlaInRefIdeal.τ).loc Cert.MlaInRefIdeal.main_arg1) = m' ((c.tc : Thread Cert.MlaInRefIdeal.nD Cert.MlaInRefIdeal.τ).loc Cert.MlaInRefIdeal.main_arg1)
          ∧ r.2.mem ((c.tc : Thread Cert.MlaInRefIdeal.nD Cert.MlaInRefIdeal.τ).loc Cert.MlaInRefIdeal.main_arg2) = m' ((c.tc : Thread Cert.MlaInRefIdeal.nD Cert.MlaInRefIdeal.τ).loc Cert.MlaInRefIdeal.main_arg2)
          ∧ r.2.mem ((c.tc : Thread Cert.MlaInRefIdeal.nD Cert.MlaInRefIdeal.τ).loc Cert.MlaInRefIdeal.main_arg3) = m' ((c.tc : Thread Cert.MlaInRefIdeal.nD Cert.MlaInRefIdeal.τ).loc Cert.MlaInRefIdeal.main_arg3)
          ∧ r.2.mem ((c.tc : Thread Cert.MlaInRefIdeal.nD Cert.MlaInRefIdeal.τ).loc Cert.MlaInRefIdeal.main_arg4) = m' ((c.tc : Thread Cert.MlaInRefIdeal.nD Cert.MlaInRefIdeal.τ).loc Cert.MlaInRefIdeal.main_arg4)
          ∧ r.2.mem ((c.tc : Thread Cert.MlaInRefIdeal.nD Cert.MlaInRefIdeal.τ).loc Cert.MlaInRefIdeal.main_arg5) = m' ((c.tc : Thread Cert.MlaInRefIdeal.nD Cert.MlaInRefIdeal.τ).loc Cert.MlaInRefIdeal.main_arg5)
          ∧ r.2.mem ((c.tc : Thread Cert.MlaInRefIdeal.nD Cert.MlaInRefIdeal.τ).loc Cert.MlaInRefIdeal.main_arg6) = m' ((c.tc : Thread Cert.MlaInRefIdeal.nD Cert.MlaInRefIdeal.τ).loc Cert.MlaInRefIdeal.main_arg6)
          ∧ r.2.mem ((c.tc : Thread Cert.MlaInRefIdeal.nD Cert.MlaInRefIdeal.τ).loc Cert.MlaInRefIdeal.main_arg7) = m' ((c.tc : Thread Cert.MlaInRefIdeal.nD Cert.MlaInRefIdeal.τ).loc Cert.MlaInRefIdeal.main_arg7)
          ∧ r.2.mem ((c.tc : Thread Cert.MlaInRefIdeal.nD Cert.MlaInRefIdeal.τ).loc Cert.MlaInRefIdeal.main_arg8) = m' ((c.tc : Thread Cert.MlaInRefIdeal.nD Cert.MlaInRefIdeal.τ).loc Cert.MlaInRefIdeal.main_arg8))

def preserves_SwaIn_SwaInIdeal : Prop :=
  True

def algebraic_SwaInIdeal_SwaInRefIdeal [hSwaInIdeal : Cert.SwaInIdeal.Facts] [hSwaInRefIdeal : Cert.SwaInRefIdeal.Facts] : Prop :=
  ∀ (m : (ℓ : Loc Cert.SwaInIdeal.nD Cert.SwaInIdeal.τ Cert.SwaInIdeal.sig) → Buf (Elt Ideal) ℓ) (g : Dev Cert.SwaInIdeal.nD → PrngReg)
    (m' : (ℓ : Loc Cert.SwaInRefIdeal.nD Cert.SwaInRefIdeal.τ Cert.SwaInRefIdeal.sig) → Buf (Elt Ideal) ℓ) (g' : Dev Cert.SwaInRefIdeal.nD → PrngReg), Pre_SwaInIdeal m →
    (∀ c : Dev Cert.SwaInIdeal.nD,
      m' ((c.tc : Thread Cert.SwaInRefIdeal.nD Cert.SwaInRefIdeal.τ).loc Cert.SwaInRefIdeal.main_arg0) = m ((c.tc : Thread Cert.SwaInIdeal.nD Cert.SwaInIdeal.τ).loc Cert.SwaInIdeal.main_arg0)
      ∧ m' ((c.tc : Thread Cert.SwaInRefIdeal.nD Cert.SwaInRefIdeal.τ).loc Cert.SwaInRefIdeal.main_arg1) = m ((c.tc : Thread Cert.SwaInIdeal.nD Cert.SwaInIdeal.τ).loc Cert.SwaInIdeal.main_arg1)
      ∧ m' ((c.tc : Thread Cert.SwaInRefIdeal.nD Cert.SwaInRefIdeal.τ).loc Cert.SwaInRefIdeal.main_arg2) = m ((c.tc : Thread Cert.SwaInIdeal.nD Cert.SwaInIdeal.τ).loc Cert.SwaInIdeal.main_arg2)
      ∧ m' ((c.tc : Thread Cert.SwaInRefIdeal.nD Cert.SwaInRefIdeal.τ).loc Cert.SwaInRefIdeal.main_arg3) = m ((c.tc : Thread Cert.SwaInIdeal.nD Cert.SwaInIdeal.τ).loc Cert.SwaInIdeal.main_arg3)
      ∧ m' ((c.tc : Thread Cert.SwaInRefIdeal.nD Cert.SwaInRefIdeal.τ).loc Cert.SwaInRefIdeal.main_arg4) = m ((c.tc : Thread Cert.SwaInIdeal.nD Cert.SwaInIdeal.τ).loc Cert.SwaInIdeal.main_arg4)) →
    ∃ (v0 : (c : Dev Cert.SwaInIdeal.nD) → Buf (Elt Ideal) ((c.tc : Thread Cert.SwaInIdeal.nD Cert.SwaInIdeal.τ).loc Cert.SwaInIdeal.main_v17_0)) (v1 : (c : Dev Cert.SwaInIdeal.nD) → Buf (Elt Ideal) ((c.tc : Thread Cert.SwaInIdeal.nD Cert.SwaInIdeal.τ).loc Cert.SwaInIdeal.main_v17_1)) (v2 : (c : Dev Cert.SwaInIdeal.nD) → Buf (Elt Ideal) ((c.tc : Thread Cert.SwaInIdeal.nD Cert.SwaInIdeal.τ).loc Cert.SwaInIdeal.main_v17_2)) (v3 : (c : Dev Cert.SwaInIdeal.nD) → Buf (Elt Ideal) ((c.tc : Thread Cert.SwaInIdeal.nD Cert.SwaInIdeal.τ).loc Cert.SwaInIdeal.main_v17_3)),
      θ_run (Cert.SwaInIdeal.defs (F := Ideal)) (onTc (τ := Cert.SwaInIdeal.τ) (Cert.SwaInIdeal.main (F := Ideal))) ⟨m, fun _ => 0, g⟩ (fun r => ∀ c : Dev Cert.SwaInIdeal.nD,
          r.2.mem ((c.tc : Thread Cert.SwaInIdeal.nD Cert.SwaInIdeal.τ).loc Cert.SwaInIdeal.main_v17_0) = v0 c
          ∧ r.2.mem ((c.tc : Thread Cert.SwaInIdeal.nD Cert.SwaInIdeal.τ).loc Cert.SwaInIdeal.main_v17_1) = v1 c
          ∧ r.2.mem ((c.tc : Thread Cert.SwaInIdeal.nD Cert.SwaInIdeal.τ).loc Cert.SwaInIdeal.main_v17_2) = v2 c
          ∧ r.2.mem ((c.tc : Thread Cert.SwaInIdeal.nD Cert.SwaInIdeal.τ).loc Cert.SwaInIdeal.main_v17_3) = v3 c
          ∧ r.2.mem ((c.tc : Thread Cert.SwaInIdeal.nD Cert.SwaInIdeal.τ).loc Cert.SwaInIdeal.main_arg0) = m ((c.tc : Thread Cert.SwaInIdeal.nD Cert.SwaInIdeal.τ).loc Cert.SwaInIdeal.main_arg0)
          ∧ r.2.mem ((c.tc : Thread Cert.SwaInIdeal.nD Cert.SwaInIdeal.τ).loc Cert.SwaInIdeal.main_arg1) = m ((c.tc : Thread Cert.SwaInIdeal.nD Cert.SwaInIdeal.τ).loc Cert.SwaInIdeal.main_arg1)
          ∧ r.2.mem ((c.tc : Thread Cert.SwaInIdeal.nD Cert.SwaInIdeal.τ).loc Cert.SwaInIdeal.main_arg2) = m ((c.tc : Thread Cert.SwaInIdeal.nD Cert.SwaInIdeal.τ).loc Cert.SwaInIdeal.main_arg2)
          ∧ r.2.mem ((c.tc : Thread Cert.SwaInIdeal.nD Cert.SwaInIdeal.τ).loc Cert.SwaInIdeal.main_arg3) = m ((c.tc : Thread Cert.SwaInIdeal.nD Cert.SwaInIdeal.τ).loc Cert.SwaInIdeal.main_arg3)
          ∧ r.2.mem ((c.tc : Thread Cert.SwaInIdeal.nD Cert.SwaInIdeal.τ).loc Cert.SwaInIdeal.main_arg4) = m ((c.tc : Thread Cert.SwaInIdeal.nD Cert.SwaInIdeal.τ).loc Cert.SwaInIdeal.main_arg4))
      ∧ θ_run (Cert.SwaInRefIdeal.defs (F := Ideal)) (onTc (τ := Cert.SwaInRefIdeal.τ) (Cert.SwaInRefIdeal.main (F := Ideal))) ⟨m', fun _ => 0, g'⟩ (fun r => ∀ c : Dev Cert.SwaInRefIdeal.nD,
          r.2.mem ((c.tc : Thread Cert.SwaInRefIdeal.nD Cert.SwaInRefIdeal.τ).loc Cert.SwaInRefIdeal.main_v56) = v0 c
          ∧ r.2.mem ((c.tc : Thread Cert.SwaInRefIdeal.nD Cert.SwaInRefIdeal.τ).loc Cert.SwaInRefIdeal.main_v59) = v1 c
          ∧ r.2.mem ((c.tc : Thread Cert.SwaInRefIdeal.nD Cert.SwaInRefIdeal.τ).loc Cert.SwaInRefIdeal.main_v62) = v2 c
          ∧ r.2.mem ((c.tc : Thread Cert.SwaInRefIdeal.nD Cert.SwaInRefIdeal.τ).loc Cert.SwaInRefIdeal.main_v64) = v3 c
          ∧ r.2.mem ((c.tc : Thread Cert.SwaInRefIdeal.nD Cert.SwaInRefIdeal.τ).loc Cert.SwaInRefIdeal.main_arg0) = m' ((c.tc : Thread Cert.SwaInRefIdeal.nD Cert.SwaInRefIdeal.τ).loc Cert.SwaInRefIdeal.main_arg0)
          ∧ r.2.mem ((c.tc : Thread Cert.SwaInRefIdeal.nD Cert.SwaInRefIdeal.τ).loc Cert.SwaInRefIdeal.main_arg1) = m' ((c.tc : Thread Cert.SwaInRefIdeal.nD Cert.SwaInRefIdeal.τ).loc Cert.SwaInRefIdeal.main_arg1)
          ∧ r.2.mem ((c.tc : Thread Cert.SwaInRefIdeal.nD Cert.SwaInRefIdeal.τ).loc Cert.SwaInRefIdeal.main_arg2) = m' ((c.tc : Thread Cert.SwaInRefIdeal.nD Cert.SwaInRefIdeal.τ).loc Cert.SwaInRefIdeal.main_arg2)
          ∧ r.2.mem ((c.tc : Thread Cert.SwaInRefIdeal.nD Cert.SwaInRefIdeal.τ).loc Cert.SwaInRefIdeal.main_arg3) = m' ((c.tc : Thread Cert.SwaInRefIdeal.nD Cert.SwaInRefIdeal.τ).loc Cert.SwaInRefIdeal.main_arg3)
          ∧ r.2.mem ((c.tc : Thread Cert.SwaInRefIdeal.nD Cert.SwaInRefIdeal.τ).loc Cert.SwaInRefIdeal.main_arg4) = m' ((c.tc : Thread Cert.SwaInRefIdeal.nD Cert.SwaInRefIdeal.τ).loc Cert.SwaInRefIdeal.main_arg4))

def Claim : Prop :=
  ∃ (hFlash : Cert.Flash.Facts) (hFlashIdeal : Cert.FlashIdeal.Facts) (hAttnIdeal : Cert.AttnIdeal.Facts) (hOut : Cert.Out.Facts) (hOutIdeal : Cert.OutIdeal.Facts) (hOutRefIdeal : Cert.OutRefIdeal.Facts) (hFinal : Cert.Final.Facts) (hFinalIdeal : Cert.FinalIdeal.Facts) (hFinalRefIdeal : Cert.FinalRefIdeal.Facts) (hMlaIn : Cert.MlaIn.Facts) (hMlaInIdeal : Cert.MlaInIdeal.Facts) (hMlaInRefIdeal : Cert.MlaInRefIdeal.Facts) (hSwaIn : Cert.SwaIn.Facts) (hSwaInIdeal : Cert.SwaInIdeal.Facts) (hSwaInRefIdeal : Cert.SwaInRefIdeal.Facts) (hPre_finite_scores : Cert.Pre_finite_scores.Facts),
    quiescent_Flash (hFlash := hFlash)
    ∧ quiescent_FlashIdeal (hFlashIdeal := hFlashIdeal)
    ∧ quiescent_FlashIdeal_pre_finite_scores (hFlashIdeal := hFlashIdeal) (hPre_finite_scores := hPre_finite_scores)
    ∧ quiescent_AttnIdeal (hAttnIdeal := hAttnIdeal)
    ∧ quiescent_AttnIdeal_pre_finite_scores (hAttnIdeal := hAttnIdeal) (hPre_finite_scores := hPre_finite_scores)
    ∧ quiescent_Out (hOut := hOut)
    ∧ quiescent_OutIdeal (hOutIdeal := hOutIdeal)
    ∧ quiescent_OutRefIdeal (hOutRefIdeal := hOutRefIdeal)
    ∧ quiescent_Final (hFinal := hFinal)
    ∧ quiescent_FinalIdeal (hFinalIdeal := hFinalIdeal)
    ∧ quiescent_FinalRefIdeal (hFinalRefIdeal := hFinalRefIdeal)
    ∧ quiescent_MlaIn (hMlaIn := hMlaIn)
    ∧ quiescent_MlaInIdeal (hMlaInIdeal := hMlaInIdeal)
    ∧ quiescent_MlaInRefIdeal (hMlaInRefIdeal := hMlaInRefIdeal)
    ∧ quiescent_SwaIn (hSwaIn := hSwaIn)
    ∧ quiescent_SwaInIdeal (hSwaInIdeal := hSwaInIdeal)
    ∧ quiescent_SwaInRefIdeal (hSwaInRefIdeal := hSwaInRefIdeal)
    ∧ preserves_Flash_FlashIdeal
    ∧ algebraic_FlashIdeal_AttnIdeal_pre_finite_scores (hFlashIdeal := hFlashIdeal) (hAttnIdeal := hAttnIdeal) (hPre_finite_scores := hPre_finite_scores)
    ∧ preserves_Out_OutIdeal
    ∧ algebraic_OutIdeal_OutRefIdeal (hOutIdeal := hOutIdeal) (hOutRefIdeal := hOutRefIdeal)
    ∧ preserves_Final_FinalIdeal
    ∧ algebraic_FinalIdeal_FinalRefIdeal (hFinalIdeal := hFinalIdeal) (hFinalRefIdeal := hFinalRefIdeal)
    ∧ preserves_MlaIn_MlaInIdeal
    ∧ algebraic_MlaInIdeal_MlaInRefIdeal (hMlaInIdeal := hMlaInIdeal) (hMlaInRefIdeal := hMlaInRefIdeal)
    ∧ preserves_SwaIn_SwaInIdeal
    ∧ algebraic_SwaInIdeal_SwaInRefIdeal (hSwaInIdeal := hSwaInIdeal) (hSwaInRefIdeal := hSwaInRefIdeal)
-- ==== Pre_finite_scores.lean ====
abbrev S8192x2048 : Shape := ⟨2, ![8192, 2048]⟩
abbrev S8192x1024 : Shape := ⟨2, ![8192, 1024]⟩
abbrev S8192x64 : Shape := ⟨2, ![8192, 64]⟩
abbrev S_ : Shape := ⟨0, ![]⟩

class Facts : Prop where
  bitsLt_bf16_f32 : FTy.bits .bf16 < FTy.bits .f32
  bcast_S_S8192x2048 : S_.BroadcastsInDim S8192x2048 (![] : Fin 0 → Fin S8192x2048.rank)
  bcast_S_S8192x1024 : S_.BroadcastsInDim S8192x1024 (![] : Fin 0 → Fin S8192x1024.rank)
  bcast_S_S8192x64 : S_.BroadcastsInDim S8192x64 (![] : Fin 0 → Fin S8192x64.rank)

variable [Facts]

def fn_part1 {F : FTy → Type} [FloatOps F] (main_arg3 : FVec F S8192x64 .bf16) (main_v5 : IVec S8192x2048 1) (main_v11 : IVec S8192x1024 1) (main_v17 : IVec S8192x2048 1) : IVec S8192x2048 1 × IVec S8192x1024 1 × IVec S8192x2048 1 × IVec S8192x64 1 :=
  let main_v18 : FVec F S8192x64 .f32 := (extf .f32 · bitsLt_bf16_f32) main_arg3
  let main_cst_5 : FVec F S_ .f32 := constant S_ .f32 0xFF800000#32
  let main_v19 : FVec F S8192x64 .f32 := broadcastInDim S8192x64 ![] bcast_S_S8192x64 main_cst_5
  let main_v20 : IVec S8192x64 1 := cmpf .ogt main_v18 main_v19
  let main_cst_6 : FVec F S_ .f32 := constant S_ .f32 0x7F800000#32
  let main_v21 : FVec F S8192x64 .f32 := broadcastInDim S8192x64 ![] bcast_S_S8192x64 main_cst_6
  let main_v22 : IVec S8192x64 1 := cmpf .olt main_v18 main_v21
  let main_v23 : IVec S8192x64 1 := andi main_v20 main_v22
  (main_v5, main_v11, main_v17, main_v23)

def fn {F : FTy → Type} [FloatOps F] (main_arg0 : FVec F S8192x2048 .bf16) (main_arg1 : FVec F S8192x1024 .bf16) (main_arg2 : FVec F S8192x2048 .bf16) (main_arg3 : FVec F S8192x64 .bf16) (main_arg4 : FVec F S8192x2048 .bf16) (main_arg5 : FVec F S8192x2048 .bf16) : IVec S8192x2048 1 × IVec S8192x1024 1 × IVec S8192x2048 1 × IVec S8192x64 1 :=
  let main_v0 : FVec F S8192x2048 .f32 := (extf .f32 · bitsLt_bf16_f32) main_arg0
  let main_cst : FVec F S_ .f32 := constant S_ .f32 0xFF800000#32
  let main_v1 : FVec F S8192x2048 .f32 := broadcastInDim S8192x2048 ![] bcast_S_S8192x2048 main_cst
  let main_v2 : IVec S8192x2048 1 := cmpf .ogt main_v0 main_v1
  let main_cst_0 : FVec F S_ .f32 := constant S_ .f32 0x7F800000#32
  let main_v3 : FVec F S8192x2048 .f32 := broadcastInDim S8192x2048 ![] bcast_S_S8192x2048 main_cst_0
  let main_v4 : IVec S8192x2048 1 := cmpf .olt main_v0 main_v3
  let main_v5 : IVec S8192x2048 1 := andi main_v2 main_v4
  let main_v6 : FVec F S8192x1024 .f32 := (extf .f32 · bitsLt_bf16_f32) main_arg1
  let main_cst_1 : FVec F S_ .f32 := constant S_ .f32 0xFF800000#32
  let main_v7 : FVec F S8192x1024 .f32 := broadcastInDim S8192x1024 ![] bcast_S_S8192x1024 main_cst_1
  let main_v8 : IVec S8192x1024 1 := cmpf .ogt main_v6 main_v7
  let main_cst_2 : FVec F S_ .f32 := constant S_ .f32 0x7F800000#32
  let main_v9 : FVec F S8192x1024 .f32 := broadcastInDim S8192x1024 ![] bcast_S_S8192x1024 main_cst_2
  let main_v10 : IVec S8192x1024 1 := cmpf .olt main_v6 main_v9
  let main_v11 : IVec S8192x1024 1 := andi main_v8 main_v10
  let main_v12 : FVec F S8192x2048 .f32 := (extf .f32 · bitsLt_bf16_f32) main_arg2
  let main_cst_3 : FVec F S_ .f32 := constant S_ .f32 0xFF800000#32
  let main_v13 : FVec F S8192x2048 .f32 := broadcastInDim S8192x2048 ![] bcast_S_S8192x2048 main_cst_3
  let main_v14 : IVec S8192x2048 1 := cmpf .ogt main_v12 main_v13
  let main_cst_4 : FVec F S_ .f32 := constant S_ .f32 0x7F800000#32
  let main_v15 : FVec F S8192x2048 .f32 := broadcastInDim S8192x2048 ![] bcast_S_S8192x2048 main_cst_4
  let main_v16 : IVec S8192x2048 1 := cmpf .olt main_v12 main_v15
  let main_v17 : IVec S8192x2048 1 := andi main_v14 main_v16
  fn_part1 (F := F) main_arg3 main_v5 main_v11 main_v17
-- ==== Flash.lean ====
abbrev S8192x2048 : Shape := ⟨2, ![8192, 2048]⟩
abbrev S8192x1024 : Shape := ⟨2, ![8192, 1024]⟩
abbrev S8192x64 : Shape := ⟨2, ![8192, 64]⟩
abbrev S8192x128 : Shape := ⟨2, ![8192, 128]⟩
abbrev S_ : Shape := ⟨0, ![]⟩
abbrev S8192x256 : Shape := ⟨2, ![8192, 256]⟩
abbrev S2048x128 : Shape := ⟨2, ![2048, 128]⟩
abbrev S2048x256 : Shape := ⟨2, ![2048, 256]⟩
abbrev S512x1 : Shape := ⟨2, ![512, 1]⟩
abbrev S512x128 : Shape := ⟨2, ![512, 128]⟩
abbrev S512x512 : Shape := ⟨2, ![512, 512]⟩
abbrev S512x256 : Shape := ⟨2, ![512, 256]⟩
abbrev S512 : Shape := ⟨1, ![512]⟩

abbrev nBuf : Space → Nat
  | .hbm => 17
  | .vmem => 18
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S8192x2048, .bf16⟩
  | .hbm, ⟨3, _⟩ => ⟨S8192x64, .bf16⟩
  | .hbm, ⟨4, _⟩ => ⟨S8192x2048, .bf16⟩
  | .hbm, ⟨5, _⟩ => ⟨S8192x2048, .bf16⟩
  | .hbm, ⟨6, _⟩ => ⟨S8192x128, .bf16⟩
  | .hbm, ⟨7, _⟩ => ⟨S8192x128, .i32⟩
  | .hbm, ⟨8, _⟩ => ⟨S_, .i32⟩
  | .hbm, ⟨9, _⟩ => ⟨S8192x128, .i32⟩
  | .hbm, ⟨10, _⟩ => ⟨S8192x128, .i1⟩
  | .hbm, ⟨11, _⟩ => ⟨S_, .bf16⟩
  | .hbm, ⟨12, _⟩ => ⟨S8192x128, .bf16⟩
  | .hbm, ⟨13, _⟩ => ⟨S8192x128, .bf16⟩
  | .hbm, ⟨14, _⟩ => ⟨S8192x128, .bf16⟩
  | .hbm, ⟨15, _⟩ => ⟨S8192x256, .bf16⟩
  | .hbm, ⟨16, _⟩ => ⟨S8192x2048, .bf16⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .bf16⟩
  | .local _ .vmem, ⟨9, _⟩ => ⟨S2048x128, .bf16⟩
  | .local _ .vmem, ⟨10, _⟩ => ⟨S2048x128, .bf16⟩
  | .local _ .vmem, ⟨11, _⟩ => ⟨S2048x128, .bf16⟩
  | .local _ .vmem, ⟨12, _⟩ => ⟨S2048x128, .bf16⟩
  | .local _ .vmem, ⟨13, _⟩ => ⟨S2048x128, .bf16⟩
  | .local _ .vmem, ⟨14, _⟩ => ⟨S2048x256, .bf16⟩
  | .local _ .vmem, ⟨15, _⟩ => ⟨S512x1, .f32⟩
  | .local _ .vmem, ⟨16, _⟩ => ⟨S512x1, .f32⟩
  | .local _ .vmem, ⟨17, _⟩ => ⟨S512x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 16], ![false, false]⟩

def k0_mult1 : BitVec 32 :=
  let c0_i32 : BitVec 32 := 0#32
  let c512_i32 : BitVec 32 := 512#32
  let v87 : BitVec 32 := Scalar.muli c0_i32 c512_i32
  v87
def k0_off1 : Fin 2 → Nat :=
  let c0_i32 : BitVec 32 := 0#32
  let c512_i32 : BitVec 32 := 512#32
  let v87 : BitVec 32 := Scalar.muli c0_i32 c512_i32
  let v88 : BitVec 32 := v87
  let v89 : Index := Scalar.indexCast v88
  let c0_60 : Index := 0#32
  ![v89.toNat, 0]
def k0_off2 : Fin 2 → Nat :=
  let c0_i32 : BitVec 32 := 0#32
  let c512_i32 : BitVec 32 := 512#32
  let v87 : BitVec 32 := Scalar.muli c0_i32 c512_i32
  let v88 : BitVec 32 := v87
  let v113 : Index := Scalar.indexCast v88
  let c0_72 : Index := 0#32
  ![v113.toNat, 0]
@[reducible] def k0_t1_loop : Scf.Loop 32 :=
  let c0_i32_120 : BitVec 32 := 0#32
  let c2_i32 : BitVec 32 := 2#32
  let v183 : BitVec 32 := Scalar.addi c0_i32_120 c2_i32
  let c1_i32_121 : BitVec 32 := 1#32
  ⟨c0_i32_120, v183, c1_i32_121⟩
def k0_mult2 (k0_t1 : Fin k0_t1_loop.trips) : BitVec 32 :=
  let c0_i32_120 : BitVec 32 := 0#32
  let c1_i32_121 : BitVec 32 := 1#32
  let arg13 : BitVec 32 := Scf.iv c0_i32_120 c1_i32_121 k0_t1
  let c512_i32_198 : BitVec 32 := 512#32
  let v290 : BitVec 32 := Scalar.muli arg13 c512_i32_198
  v290
def k0_off3 (k0_t1 : Fin k0_t1_loop.trips) : Fin 2 → Nat :=
  let c0_i32_120 : BitVec 32 := 0#32
  let c1_i32_121 : BitVec 32 := 1#32
  let arg13 : BitVec 32 := Scf.iv c0_i32_120 c1_i32_121 k0_t1
  let c512_i32_198 : BitVec 32 := 512#32
  let v290 : BitVec 32 := Scalar.muli arg13 c512_i32_198
  let v291 : BitVec 32 := v290
  let v292 : Index := Scalar.indexCast v291
  let c0_199 : Index := 0#32
  ![v292.toNat, 0]
def k0_off4 (k0_t1 : Fin k0_t1_loop.trips) : Fin 2 → Nat :=
  let c0_i32_120 : BitVec 32 := 0#32
  let c1_i32_121 : BitVec 32 := 1#32
  let arg13 : BitVec 32 := Scf.iv c0_i32_120 c1_i32_121 k0_t1
  let c512_i32_198 : BitVec 32 := 512#32
  let v290 : BitVec 32 := Scalar.muli arg13 c512_i32_198
  let v291 : BitVec 32 := v290
  let v316 : Index := Scalar.indexCast v291
  let c0_211 : Index := 0#32
  ![v316.toNat, 0]
@[reducible] def k0_t2_loop : Scf.Loop 32 :=
  let c0_i32_165 : BitVec 32 := 0#32
  let c3_i32 : BitVec 32 := 3#32
  let v244 : BitVec 32 := Scalar.addi c0_i32_165 c3_i32
  let c1_i32_166 : BitVec 32 := 1#32
  ⟨c0_i32_165, v244, c1_i32_166⟩
def k0_mult3 (k0_t2 : Fin k0_t2_loop.trips) : BitVec 32 :=
  let c0_i32_165 : BitVec 32 := 0#32
  let c1_i32_166 : BitVec 32 := 1#32
  let arg13 : BitVec 32 := Scf.iv c0_i32_165 c1_i32_166 k0_t2
  let c512_i32_198 : BitVec 32 := 512#32
  let v290 : BitVec 32 := Scalar.muli arg13 c512_i32_198
  v290
def k0_off5 (k0_t2 : Fin k0_t2_loop.trips) : Fin 2 → Nat :=
  let c0_i32_165 : BitVec 32 := 0#32
  let c1_i32_166 : BitVec 32 := 1#32
  let arg13 : BitVec 32 := Scf.iv c0_i32_165 c1_i32_166 k0_t2
  let c512_i32_198 : BitVec 32 := 512#32
  let v290 : BitVec 32 := Scalar.muli arg13 c512_i32_198
  let v291 : BitVec 32 := v290
  let v292 : Index := Scalar.indexCast v291
  let c0_199 : Index := 0#32
  ![v292.toNat, 0]
def k0_off6 (k0_t2 : Fin k0_t2_loop.trips) : Fin 2 → Nat :=
  let c0_i32_165 : BitVec 32 := 0#32
  let c1_i32_166 : BitVec 32 := 1#32
  let arg13 : BitVec 32 := Scf.iv c0_i32_165 c1_i32_166 k0_t2
  let c512_i32_198 : BitVec 32 := 512#32
  let v290 : BitVec 32 := Scalar.muli arg13 c512_i32_198
  let v291 : BitVec 32 := v290
  let v316 : Index := Scalar.indexCast v291
  let c0_211 : Index := 0#32
  ![v316.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  ![arg0.toNat, v16.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  ![arg0.toNat, v9.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== FlashIdeal.lean ====
variable {F : FTy → Type} [FloatOps F] [Named F]
def κ : String → Option EReal := fun
  | "mask" => some ⊥
  | _ => none
-- ==== AttnIdeal.lean ====
abbrev S8192x2048 : Shape := ⟨2, ![8192, 2048]⟩
abbrev S8192x1024 : Shape := ⟨2, ![8192, 1024]⟩
abbrev S8192x64 : Shape := ⟨2, ![8192, 64]⟩
abbrev S4x2048x16x128 : Shape := ⟨4, ![4, 2048, 16, 128]⟩
abbrev S4x2048x16x64 : Shape := ⟨4, ![4, 2048, 16, 64]⟩
abbrev S4x2048x64 : Shape := ⟨3, ![4, 2048, 64]⟩
abbrev S4x16x2048x2048 : Shape := ⟨4, ![4, 16, 2048, 2048]⟩
abbrev S4x2048x2048x16 : Shape := ⟨4, ![4, 2048, 2048, 16]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S_ : Shape := ⟨0, ![]⟩
abbrev S4x16x2048 : Shape := ⟨3, ![4, 16, 2048]⟩
abbrev S4x16x2048x1 : Shape := ⟨4, ![4, 16, 2048, 1]⟩
abbrev S4x16x128x2048 : Shape := ⟨4, ![4, 16, 128, 2048]⟩

abbrev nBuf : Space → Nat
  | .hbm => 51
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S8192x2048, .bf16⟩
  | .hbm, ⟨3, _⟩ => ⟨S8192x64, .bf16⟩
  | .hbm, ⟨4, _⟩ => ⟨S8192x2048, .bf16⟩
  | .hbm, ⟨5, _⟩ => ⟨S8192x2048, .bf16⟩
  | .hbm, ⟨6, _⟩ => ⟨S8192x2048, .f32⟩
  | .hbm, ⟨7, _⟩ => ⟨S4x2048x16x128, .f32⟩
  | .hbm, ⟨8, _⟩ => ⟨S8192x1024, .f32⟩
  | .hbm, ⟨9, _⟩ => ⟨S4x2048x16x64, .f32⟩
  | .hbm, ⟨10, _⟩ => ⟨S8192x2048, .f32⟩
  | .hbm, ⟨11, _⟩ => ⟨S4x2048x16x128, .f32⟩
  | .hbm, ⟨12, _⟩ => ⟨S8192x64, .f32⟩
  | .hbm, ⟨13, _⟩ => ⟨S4x2048x64, .f32⟩
  | .hbm, ⟨14, _⟩ => ⟨S8192x2048, .f32⟩
  | .hbm, ⟨15, _⟩ => ⟨S4x2048x16x128, .f32⟩
  | .hbm, ⟨16, _⟩ => ⟨S4x16x2048x2048, .f32⟩
  | .hbm, ⟨17, _⟩ => ⟨S4x2048x2048x16, .f32⟩
  | .hbm, ⟨18, _⟩ => ⟨S4x16x2048x2048, .f32⟩
  | .hbm, ⟨19, _⟩ => ⟨S4x16x2048x2048, .f32⟩
  | .hbm, ⟨20, _⟩ => ⟨S2048, .i32⟩
  | .hbm, ⟨21, _⟩ => ⟨S1x2048, .i32⟩
  | .hbm, ⟨22, _⟩ => ⟨S2048x1, .i32⟩
  | .hbm, ⟨23, _⟩ => ⟨S2048x2048, .i32⟩
  | .hbm, ⟨24, _⟩ => ⟨S2048x2048, .i32⟩
  | .hbm, ⟨25, _⟩ => ⟨S2048x2048, .i1⟩
  | .hbm, ⟨26, _⟩ => ⟨S_, .f32⟩
  | .hbm, ⟨27, _⟩ => ⟨S_, .f32⟩
  | .hbm, ⟨28, _⟩ => ⟨S4x16x2048x2048, .i1⟩
  | .hbm, ⟨29, _⟩ => ⟨S4x16x2048x2048, .f32⟩
  | .hbm, ⟨30, _⟩ => ⟨S4x16x2048x2048, .f32⟩
  | .hbm, ⟨31, _⟩ => ⟨S_, .f32⟩
  | .hbm, ⟨32, _⟩ => ⟨S4x16x2048, .f32⟩
  | .hbm, ⟨33, _⟩ => ⟨S_, .f32⟩
  | .hbm, ⟨34, _⟩ => ⟨S4x16x2048, .f32⟩
  | .hbm, ⟨35, _⟩ => ⟨S4x16x2048, .f32⟩
  | .hbm, ⟨36, _⟩ => ⟨S4x16x2048x1, .f32⟩
  | .hbm, ⟨37, _⟩ => ⟨S4x16x2048x2048, .f32⟩
  | .hbm, ⟨38, _⟩ => ⟨S4x16x2048x2048, .f32⟩
  | .hbm, ⟨39, _⟩ => ⟨S4x16x2048x2048, .f32⟩
  | .hbm, ⟨40, _⟩ => ⟨S_, .f32⟩
  | .hbm, ⟨41, _⟩ => ⟨S4x16x2048, .f32⟩
  | .hbm, ⟨42, _⟩ => ⟨S4x16x2048x1, .f32⟩
  | .hbm, ⟨43, _⟩ => ⟨S4x16x2048x2048, .f32⟩
  | .hbm, ⟨44, _⟩ => ⟨S4x16x2048x2048, .f32⟩
  | .hbm, ⟨45, _⟩ => ⟨S4x16x128x2048, .f32⟩
  | .hbm, ⟨46, _⟩ => ⟨S4x2048x16x128, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v20 : Ref sig .tc := ⟨.hbm, 30, rfl⟩
abbrev main_cst_0 : Ref sig .tc := ⟨.hbm, 31, rfl⟩
abbrev main_v21 : Ref sig .tc := ⟨.hbm, 32, rfl⟩
abbrev main_cst_1 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_2 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Out.lean ====
abbrev S8192x2048 : Shape := ⟨2, ![8192, 2048]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩

abbrev nBuf : Space → Nat
  | .hbm => 7
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S2048x2048, .f32⟩
  | .hbm, ⟨3, _⟩ => ⟨S2048, .f32⟩
  | .hbm, ⟨4, _⟩ => ⟨S2048x2048, .bf16⟩
  | .hbm, ⟨5, _⟩ => ⟨S1x2048, .f32⟩
  | .hbm, ⟨6, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S2048x2048, .bf16⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== OutRefIdeal.lean ====
abbrev S8192x2048 : Shape := ⟨2, ![8192, 2048]⟩
abbrev S2048x2048 : Shape := ⟨2, ![2048, 2048]⟩
abbrev S2048 : Shape := ⟨1, ![2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S2048x2048, .f32⟩
  | .hbm, ⟨3, _⟩ => ⟨S2048, .f32⟩
  | .hbm, ⟨4, _⟩ => ⟨S8192x2048, .f32⟩
  | .hbm, ⟨5, _⟩ => ⟨S8192x2048, .f32⟩
  | .hbm, ⟨6, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== Final.lean ====
abbrev S8192x2048 : Shape := ⟨2, ![8192, 2048]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 7
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S2048x2048, .f32⟩
  | .hbm, ⟨3, _⟩ => ⟨S2048, .f32⟩
  | .hbm, ⟨4, _⟩ => ⟨S2048x2048, .bf16⟩
  | .hbm, ⟨5, _⟩ => ⟨S1x2048, .f32⟩
  | .hbm, ⟨6, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S2048x2048, .bf16⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FinalRefIdeal.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 23
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S2048x2048, .f32⟩
  | .hbm, ⟨3, _⟩ => ⟨S2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S1x2048, .f32⟩
  | .hbm, ⟨21, _⟩ => ⟨S8192x2048, .f32⟩
  | .hbm, ⟨22, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== MlaIn.lean ====
abbrev S8192x2048 : Shape := ⟨2, ![8192, 2048]⟩
abbrev S2048 : Shape := ⟨1, ![2048]⟩
abbrev S2048x3136 : Shape := ⟨2, ![2048, 3136]⟩
abbrev S512 : Shape := ⟨1, ![512]⟩
abbrev S512x3072 : Shape := ⟨2, ![512, 3072]⟩
abbrev S512x4096 : Shape := ⟨2, ![512, 4096]⟩
abbrev S8192x32 : Shape := ⟨2, ![8192, 32]⟩
abbrev S8192x128 : Shape := ⟨2, ![8192, 128]⟩
abbrev S2048x64 : Shape := ⟨2, ![2048, 64]⟩
abbrev S512x16x192 : Shape := ⟨3, ![512, 16, 192]⟩
abbrev S512x16x256 : Shape := ⟨3, ![512, 16, 256]⟩
abbrev S2048x512 : Shape := ⟨2, ![2048, 512]⟩
abbrev S2048x128 : Shape := ⟨2, ![2048, 128]⟩
abbrev S2048x2048 : Shape := ⟨2, ![2048, 2048]⟩
abbrev S1x512 : Shape := ⟨2, ![1, 512]⟩
abbrev S512x16x128 : Shape := ⟨3, ![512, 16, 128]⟩
abbrev S512x2048 : Shape := ⟨2, ![512, 2048]⟩
abbrev S512x16x64 : Shape := ⟨3, ![512, 16, 64]⟩
abbrev S512x1024 : Shape := ⟨2, ![512, 1024]⟩
abbrev S1x2048 : Shape := ⟨2, ![1, 2048]⟩
abbrev S8192x1024 : Shape := ⟨2, ![8192, 1024]⟩
abbrev S8192x256 : Shape := ⟨2, ![8192, 256]⟩
abbrev S256x2048 : Shape := ⟨2, ![256, 2048]⟩
abbrev S256x128 : Shape := ⟨2, ![256, 128]⟩
abbrev S256x1024 : Shape := ⟨2, ![256, 1024]⟩
abbrev S256x256 : Shape := ⟨2, ![256, 256]⟩
abbrev S256 : Shape := ⟨1, ![256]⟩
abbrev S256x1 : Shape := ⟨2, ![256, 1]⟩
abbrev S256x512 : Shape := ⟨2, ![256, 512]⟩

abbrev nBuf : Space → Nat
  | .hbm => 45
  | .vmem => 29
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x3136, .f32⟩
  | .hbm, ⟨3, _⟩ => ⟨S512, .f32⟩
  | .hbm, ⟨4, _⟩ => ⟨S512x3072, .f32⟩
  | .hbm, ⟨5, _⟩ => ⟨S512, .f32⟩
  | .hbm, ⟨6, _⟩ => ⟨S512x4096, .f32⟩
  | .hbm, ⟨7, _⟩ => ⟨S8192x32, .f32⟩
  | .hbm, ⟨8, _⟩ => ⟨S8192x32, .f32⟩
  | .hbm, ⟨9, _⟩ => ⟨S8192x128, .f32⟩
  | .hbm, ⟨10, _⟩ => ⟨S8192x32, .f32⟩
  | .hbm, ⟨11, _⟩ => ⟨S8192x32, .f32⟩
  | .hbm, ⟨12, _⟩ => ⟨S8192x128, .f32⟩
  | .hbm, ⟨13, _⟩ => ⟨S2048x64, .f32⟩
  | .hbm, ⟨14, _⟩ => ⟨S512x16x192, .f32⟩
  | .hbm, ⟨15, _⟩ => ⟨S512x16x256, .f32⟩
  | .hbm, ⟨16, _⟩ => ⟨S2048x512, .f32⟩
  | .hbm, ⟨17, _⟩ => ⟨S2048x512, .bf16⟩
  | .hbm, ⟨18, _⟩ => ⟨S2048x512, .f32⟩
  | .hbm, ⟨19, _⟩ => ⟨S2048x512, .bf16⟩
  | .hbm, ⟨20, _⟩ => ⟨S2048x128, .f32⟩
  | .hbm, ⟨21, _⟩ => ⟨S2048x128, .bf16⟩
  | .hbm, ⟨22, _⟩ => ⟨S2048x2048, .f32⟩
  | .hbm, ⟨23, _⟩ => ⟨S2048x2048, .bf16⟩
  | .hbm, ⟨24, _⟩ => ⟨S1x512, .f32⟩
  | .hbm, ⟨25, _⟩ => ⟨S1x512, .f32⟩
  | .hbm, ⟨26, _⟩ => ⟨S512x16x128, .f32⟩
  | .hbm, ⟨27, _⟩ => ⟨S512x2048, .f32⟩
  | .hbm, ⟨28, _⟩ => ⟨S512x2048, .bf16⟩
  | .hbm, ⟨29, _⟩ => ⟨S512x16x64, .f32⟩
  | .hbm, ⟨30, _⟩ => ⟨S512x1024, .f32⟩
  | .hbm, ⟨31, _⟩ => ⟨S512x1024, .bf16⟩
  | .hbm, ⟨32, _⟩ => ⟨S512x16x128, .f32⟩
  | .hbm, ⟨33, _⟩ => ⟨S512x2048, .f32⟩
  | .hbm, ⟨34, _⟩ => ⟨S512x2048, .bf16⟩
  | .hbm, ⟨35, _⟩ => ⟨S512x16x128, .f32⟩
  | .hbm, ⟨36, _⟩ => ⟨S512x2048, .f32⟩
  | .hbm, ⟨37, _⟩ => ⟨S512x2048, .bf16⟩
  | .hbm, ⟨38, _⟩ => ⟨S1x2048, .f32⟩
  | .hbm, ⟨39, _⟩ => ⟨S8192x2048, .bf16⟩
  | .hbm, ⟨40, _⟩ => ⟨S8192x1024, .bf16⟩
  | .hbm, ⟨41, _⟩ => ⟨S8192x2048, .bf16⟩
  | .hbm, ⟨42, _⟩ => ⟨S8192x2048, .bf16⟩
  | .hbm, ⟨43, _⟩ => ⟨S8192x256, .bf16⟩
  | .hbm, ⟨44, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x2048, .bf16⟩
  | .local _ .vmem, ⟨6, _⟩ => ⟨S2048x128, .bf16⟩
  | .local _ .vmem, ⟨7, _⟩ => ⟨S1x512, .f32⟩
  | .local _ .vmem, ⟨8, _⟩ => ⟨S1x512, .f32⟩
  | .local _ .vmem, ⟨9, _⟩ => ⟨S512x2048, .bf16⟩
  | .local _ .vmem, ⟨10, _⟩ => ⟨S512x1024, .bf16⟩
  | .local _ .vmem, ⟨11, _⟩ => ⟨S512x2048, .bf16⟩
  | .local _ .vmem, ⟨12, _⟩ => ⟨S512x2048, .bf16⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S256x2048, .bf16⟩
  | .local _ .vmem, ⟨18, _⟩ => ⟨S256x2048, .bf16⟩
  | .local _ .vmem, ⟨19, _⟩ => ⟨S256x1024, .bf16⟩
  | .local _ .vmem, ⟨20, _⟩ => ⟨S256x1024, .bf16⟩
  | .local _ .vmem, ⟨21, _⟩ => ⟨S256x2048, .bf16⟩
  | .local _ .vmem, ⟨22, _⟩ => ⟨S256x2048, .bf16⟩
  | .local _ .vmem, ⟨23, _⟩ => ⟨S256x2048, .bf16⟩
  | .local _ .vmem, ⟨24, _⟩ => ⟨S256x2048, .bf16⟩
  | .local _ .vmem, ⟨25, _⟩ => ⟨S256x256, .bf16⟩
  | .local _ .vmem, ⟨26, _⟩ => ⟨S256x256, .bf16⟩
  | .local _ .vmem, ⟨27, _⟩ => ⟨S256x2048, .bf16⟩
  | .local _ .vmem, ⟨28, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30_0 : Ref sig .tc := ⟨.hbm, 39, rfl⟩
abbrev main_v30_1 : Ref sig .tc := ⟨.hbm, 40, rfl⟩
abbrev main_v30_2 : Ref sig .tc := ⟨.hbm, 41, rfl⟩
abbrev main_v30_3 : Ref sig .tc := ⟨.hbm, 42, rfl⟩
abbrev main_v30_4 : Ref sig .tc := ⟨.hbm, 43, rfl⟩
abbrev main_v30_5 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_stg19_0 : Ref sig .tc := ⟨.vmem, 27, rfl⟩
abbrev cc0_stg19_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14
abbrev cc0_sem13_0 : DmaSem sig := 15
abbrev cc0_sem13_1 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26
abbrev cc0_sem19_0 : DmaSem sig := 27
abbrev cc0_sem19_1 : DmaSem sig := 28

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x2048 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x2048 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x2048 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== MlaInRefIdeal.lean ====
abbrev S8192x2048 : Shape := ⟨2, ![8192, 2048]⟩
abbrev S2048 : Shape := ⟨1, ![2048]⟩
abbrev S2048x3136 : Shape := ⟨2, ![2048, 3136]⟩
abbrev S512 : Shape := ⟨1, ![512]⟩
abbrev S512x3072 : Shape := ⟨2, ![512, 3072]⟩
abbrev S512x4096 : Shape := ⟨2, ![512, 4096]⟩
abbrev S8192x32 : Shape := ⟨2, ![8192, 32]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x3136 : Shape := ⟨2, ![8192, 3136]⟩
abbrev S8192x512 : Shape := ⟨2, ![8192, 512]⟩
abbrev S8192x64 : Shape := ⟨2, ![8192, 64]⟩
abbrev S1x512 : Shape := ⟨2, ![1, 512]⟩
abbrev S8192x3072 : Shape := ⟨2, ![8192, 3072]⟩
abbrev S8192x16x192 : Shape := ⟨3, ![8192, 16, 192]⟩
abbrev S8192x16x128 : Shape := ⟨3, ![8192, 16, 128]⟩
abbrev S8192x16x64 : Shape := ⟨3, ![8192, 16, 64]⟩
abbrev S8192x1x32 : Shape := ⟨3, ![8192, 1, 32]⟩
abbrev S8192x16x32 : Shape := ⟨3, ![8192, 16, 32]⟩
abbrev S8192x16x0 : Shape := ⟨3, ![8192, 16, 0]⟩
abbrev S8192x4096 : Shape := ⟨2, ![8192, 4096]⟩
abbrev S8192x16x256 : Shape := ⟨3, ![8192, 16, 256]⟩
abbrev S8192x1x64 : Shape := ⟨3, ![8192, 1, 64]⟩
abbrev S8192x1x0 : Shape := ⟨3, ![8192, 1, 0]⟩
abbrev S8192x1024 : Shape := ⟨2, ![8192, 1024]⟩
abbrev S8192x256 : Shape := ⟨2, ![8192, 256]⟩

abbrev nBuf : Space → Nat
  | .hbm => 128
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x3136, .f32⟩
  | .hbm, ⟨3, _⟩ => ⟨S512, .f32⟩
  | .hbm, ⟨4, _⟩ => ⟨S512x3072, .f32⟩
  | .hbm, ⟨5, _⟩ => ⟨S512, .f32⟩
  | .hbm, ⟨6, _⟩ => ⟨S512x4096, .f32⟩
  | .hbm, ⟨7, _⟩ => ⟨S8192x32, .f32⟩
  | .hbm, ⟨8, _⟩ => ⟨S8192x32, .f32⟩
  | .hbm, ⟨9, _⟩ => ⟨S8192x2048, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x2048, .f32⟩
  | .hbm, ⟨21, _⟩ => ⟨S8192x2048, .f32⟩
  | .hbm, ⟨22, _⟩ => ⟨S1x2048, .f32⟩
  | .hbm, ⟨23, _⟩ => ⟨S8192x2048, .f32⟩
  | .hbm, ⟨24, _⟩ => ⟨S8192x2048, .f32⟩
  | .hbm, ⟨25, _⟩ => ⟨S8192x3136, .f32⟩
  | .hbm, ⟨26, _⟩ => ⟨S8192x512, .f32⟩
  | .hbm, ⟨27, _⟩ => ⟨S8192x512, .f32⟩
  | .hbm, ⟨28, _⟩ => ⟨S8192x64, .f32⟩
  | .hbm, ⟨29, _⟩ => ⟨S8192x2048, .f32⟩
  | .hbm, ⟨30, _⟩ => ⟨S8192x512, .f32⟩
  | .hbm, ⟨31, _⟩ => ⟨S_, .f32⟩
  | .hbm, ⟨32, _⟩ => ⟨S8192, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S8192x1, .f32⟩
  | .hbm, ⟨41, _⟩ => ⟨S8192x512, .f32⟩
  | .hbm, ⟨42, _⟩ => ⟨S8192x512, .f32⟩
  | .hbm, ⟨43, _⟩ => ⟨S1x512, .f32⟩
  | .hbm, ⟨44, _⟩ => ⟨S8192x512, .f32⟩
  | .hbm, ⟨45, _⟩ => ⟨S8192x512, .f32⟩
  | .hbm, ⟨46, _⟩ => ⟨S8192x3072, .f32⟩
  | .hbm, ⟨47, _⟩ => ⟨S8192x16x192, .f32⟩
  | .hbm, ⟨48, _⟩ => ⟨S8192x16x128, .f32⟩
  | .hbm, ⟨49, _⟩ => ⟨S_, .f32⟩
  | .hbm, ⟨50, _⟩ => ⟨S8192x16x128, .f32⟩
  | .hbm, ⟨51, _⟩ => ⟨S8192x16x128, .f32⟩
  | .hbm, ⟨52, _⟩ => ⟨S8192x16x64, .f32⟩
  | .hbm, ⟨53, _⟩ => ⟨S8192x1x32, .f32⟩
  | .hbm, ⟨54, _⟩ => ⟨S8192x1x32, .f32⟩
  | .hbm, ⟨55, _⟩ => ⟨S8192x16x32, .f32⟩
  | .hbm, ⟨56, _⟩ => ⟨S8192x16x32, .f32⟩
  | .hbm, ⟨57, _⟩ => ⟨S8192x16x0, .f32⟩
  | .hbm, ⟨58, _⟩ => ⟨S8192x16x32, .f32⟩
  | .hbm, ⟨59, _⟩ => ⟨S8192x16x32, .f32⟩
  | .hbm, ⟨60, _⟩ => ⟨S8192x16x32, .f32⟩
  | .hbm, ⟨61, _⟩ => ⟨S8192x16x32, .f32⟩
  | .hbm, ⟨62, _⟩ => ⟨S8192x16x32, .f32⟩
  | .hbm, ⟨63, _⟩ => ⟨S8192x16x32, .f32⟩
  | .hbm, ⟨64, _⟩ => ⟨S8192x16x32, .f32⟩
  | .hbm, ⟨65, _⟩ => ⟨S8192x16x32, .f32⟩
  | .hbm, ⟨66, _⟩ => ⟨S8192x16x32, .f32⟩
  | .hbm, ⟨67, _⟩ => ⟨S8192x16x32, .f32⟩
  | .hbm, ⟨68, _⟩ => ⟨S8192x16x64, .f32⟩
  | .hbm, ⟨69, _⟩ => ⟨S_, .f32⟩
  | .hbm, ⟨70, _⟩ => ⟨S8192x16x64, .f32⟩
  | .hbm, ⟨71, _⟩ => ⟨S8192x16x64, .f32⟩
  | .hbm, ⟨72, _⟩ => ⟨S8192x512, .f32⟩
  | .hbm, ⟨73, _⟩ => ⟨S_, .f32⟩
  | .hbm, ⟨74, _⟩ => ⟨S8192, .f32⟩
  | .hbm, ⟨75, _⟩ => ⟨S8192x1, .f32⟩
  | .hbm, ⟨76, _⟩ => ⟨S_, .f32⟩
  | .hbm, ⟨77, _⟩ => ⟨S8192x1, .f32⟩
  | .hbm, ⟨78, _⟩ => ⟨S8192x1, .f32⟩
  | .hbm, ⟨79, _⟩ => ⟨S_, .f32⟩
  | .hbm, ⟨80, _⟩ => ⟨S8192x1, .f32⟩
  | .hbm, ⟨81, _⟩ => ⟨S8192x1, .f32⟩
  | .hbm, ⟨82, _⟩ => ⟨S8192x1, .f32⟩
  | .hbm, ⟨83, _⟩ => ⟨S8192x512, .f32⟩
  | .hbm, ⟨84, _⟩ => ⟨S8192x512, .f32⟩
  | .hbm, ⟨85, _⟩ => ⟨S1x512, .f32⟩
  | .hbm, ⟨86, _⟩ => ⟨S8192x512, .f32⟩
  | .hbm, ⟨87, _⟩ => ⟨S8192x512, .f32⟩
  | .hbm, ⟨88, _⟩ => ⟨S8192x4096, .f32⟩
  | .hbm, ⟨89, _⟩ => ⟨S8192x16x256, .f32⟩
  | .hbm, ⟨90, _⟩ => ⟨S8192x16x128, .f32⟩
  | .hbm, ⟨91, _⟩ => ⟨S8192x16x128, .f32⟩
  | .hbm, ⟨92, _⟩ => ⟨S8192x1x64, .f32⟩
  | .hbm, ⟨93, _⟩ => ⟨S8192x1x32, .f32⟩
  | .hbm, ⟨94, _⟩ => ⟨S8192x1x32, .f32⟩
  | .hbm, ⟨95, _⟩ => ⟨S8192x1x32, .f32⟩
  | .hbm, ⟨96, _⟩ => ⟨S8192x1x32, .f32⟩
  | .hbm, ⟨97, _⟩ => ⟨S8192x1x0, .f32⟩
  | .hbm, ⟨98, _⟩ => ⟨S8192x1x32, .f32⟩
  | .hbm, ⟨99, _⟩ => ⟨S8192x1x32, .f32⟩
  | .hbm, ⟨100, _⟩ => ⟨S8192x1x32, .f32⟩
  | .hbm, ⟨101, _⟩ => ⟨S8192x1x32, .f32⟩
  | .hbm, ⟨102, _⟩ => ⟨S8192x1x32, .f32⟩
  | .hbm, ⟨103, _⟩ => ⟨S8192x1x32, .f32⟩
  | .hbm, ⟨104, _⟩ => ⟨S8192x1x64, .f32⟩
  | .hbm, ⟨105, _⟩ => ⟨S8192x64, .f32⟩
  | .hbm, ⟨106, _⟩ => ⟨S_, .f32⟩
  | .hbm, ⟨107, _⟩ => ⟨S8192x64, .f32⟩
  | .hbm, ⟨108, _⟩ => ⟨S8192x2048, .f32⟩
  | .hbm, ⟨109, _⟩ => ⟨S8192x2048, .bf16⟩
  | .hbm, ⟨110, _⟩ => ⟨S8192x1024, .f32⟩
  | .hbm, ⟨111, _⟩ => ⟨S8192x1024, .bf16⟩
  | .hbm, ⟨112, _⟩ => ⟨S8192x2048, .f32⟩
  | .hbm, ⟨113, _⟩ => ⟨S8192x2048, .bf16⟩
  | .hbm, ⟨114, _⟩ => ⟨S8192x2048, .f32⟩
  | .hbm, ⟨115, _⟩ => ⟨S8192x2048, .bf16⟩
  | .hbm, ⟨116, _⟩ => ⟨S8192x256, .f32⟩
  | .hbm, ⟨117, _⟩ => ⟨S8192x256, .bf16⟩
  | .hbm, ⟨118, _⟩ => ⟨S8192x2048, .f32⟩
  | .hbm, ⟨119, _⟩ => ⟨S8192x2048, .f32⟩
  | .hbm, ⟨120, _⟩ => ⟨S_, .f32⟩
  | .hbm, ⟨121, _⟩ => ⟨S8192x2048, .f32⟩
  | .hbm, ⟨122, _⟩ => ⟨S8192x2048, .f32⟩
  | .hbm, ⟨123, _⟩ => ⟨S_, .f32⟩
  | .hbm, ⟨124, _⟩ => ⟨S8192x2048, .f32⟩
  | .hbm, ⟨125, _⟩ => ⟨S8192x2048, .f32⟩
  | .hbm, ⟨126, _⟩ => ⟨S8192x2048, .f32⟩
  | .hbm, ⟨127, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_5 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_6 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_7 : Ref sig .tc := ⟨.hbm, 73, rfl⟩
abbrev main_v56 : Ref sig .tc := ⟨.hbm, 74, rfl⟩
abbrev main_v57 : Ref sig .tc := ⟨.hbm, 75, rfl⟩
abbrev main_cst_8 : Ref sig .tc := ⟨.hbm, 76, rfl⟩
abbrev main_v58 : Ref sig .tc := ⟨.hbm, 77, rfl⟩
abbrev main_v59 : Ref sig .tc := ⟨.hbm, 78, rfl⟩
abbrev main_cst_9 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_cst_10 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_call0_v0 : Ref sig .tc := ⟨.hbm, 118, rfl⟩
abbrev main_call0_v1 : Ref sig .tc := ⟨.hbm, 119, rfl⟩
abbrev main_call0_cst : Ref sig .tc := ⟨.hbm, 120, rfl⟩
abbrev main_call0_v2 : Ref sig .tc := ⟨.hbm, 121, rfl⟩
abbrev main_call0_v3 : Ref sig .tc := ⟨.hbm, 122, rfl⟩
abbrev main_call0_cst_0 : Ref sig .tc := ⟨.hbm, 123, rfl⟩
abbrev main_call0_v4 : Ref sig .tc := ⟨.hbm, 124, rfl⟩
abbrev main_call0_v5 : Ref sig .tc := ⟨.hbm, 125, rfl⟩
abbrev main_v97 : Ref sig .tc := ⟨.hbm, 126, rfl⟩
abbrev main_v98 : Ref sig .tc := ⟨.hbm, 127, rfl⟩

abbrev nD : Nat := 1
abbrev τ : Topo := Topo.v7x

variable {F : FTy → Type} [FloatOps F]
-- ==== SwaIn.lean ====
abbrev S8192x2048 : Shape := ⟨2, ![8192, 2048]⟩
abbrev S2048 : Shape := ⟨1, ![2048]⟩
abbrev S2048x4608 : Shape := ⟨2, ![2048, 4608]⟩
abbrev S8192x8 : Shape := ⟨2, ![8192, 8]⟩
abbrev S_ : Shape := ⟨0, ![]⟩
abbrev S8192x48 : Shape := ⟨2, ![8192, 48]⟩
abbrev S8192x56 : Shape := ⟨2, ![8192, 56]⟩
abbrev S8192x128 : Shape := ⟨2, ![8192, 128]⟩
abbrev S1x2048 : Shape := ⟨2, ![1, 2048]⟩
abbrev S2048x2048 : Shape := ⟨2, ![2048, 2048]⟩
abbrev S2048x256 : Shape := ⟨2, ![2048, 256]⟩
abbrev S8192x512 : Shape := ⟨2, ![8192, 512]⟩
abbrev S256x2048 : Shape := ⟨2, ![256, 2048]⟩
abbrev S256x128 : Shape := ⟨2, ![256, 128]⟩
abbrev S256x512 : Shape := ⟨2, ![256, 512]⟩
abbrev S256 : Shape := ⟨1, ![256]⟩
abbrev S256x1 : Shape := ⟨2, ![256, 1]⟩
abbrev S256x256 : Shape := ⟨2, ![256, 256]⟩
abbrev S256x64 : Shape := ⟨2, ![256, 64]⟩

abbrev nBuf : Space → Nat
  | .hbm => 30
  | .vmem => 21
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x4608, .f32⟩
  | .hbm, ⟨3, _⟩ => ⟨S8192x8, .f32⟩
  | .hbm, ⟨4, _⟩ => ⟨S8192x8, .f32⟩
  | .hbm, ⟨5, _⟩ => ⟨S_, .f32⟩
  | .hbm, ⟨6, _⟩ => ⟨S8192x48, .f32⟩
  | .hbm, ⟨7, _⟩ => ⟨S_, .f32⟩
  | .hbm, ⟨8, _⟩ => ⟨S8192x56, .f32⟩
  | .hbm, ⟨9, _⟩ => ⟨S_, .f32⟩
  | .hbm, ⟨10, _⟩ => ⟨S8192x8, .f32⟩
  | .hbm, ⟨11, _⟩ => ⟨S_, .f32⟩
  | .hbm, ⟨12, _⟩ => ⟨S8192x48, .f32⟩
  | .hbm, ⟨13, _⟩ => ⟨S8192x128, .f32⟩
  | .hbm, ⟨14, _⟩ => ⟨S8192x8, .f32⟩
  | .hbm, ⟨15, _⟩ => ⟨S8192x128, .f32⟩
  | .hbm, ⟨16, _⟩ => ⟨S8192x128, .f32⟩
  | .hbm, ⟨17, _⟩ => ⟨S1x2048, .f32⟩
  | .hbm, ⟨18, _⟩ => ⟨S2048x2048, .f32⟩
  | .hbm, ⟨19, _⟩ => ⟨S2048x2048, .bf16⟩
  | .hbm, ⟨20, _⟩ => ⟨S2048x256, .f32⟩
  | .hbm, ⟨21, _⟩ => ⟨S2048x256, .bf16⟩
  | .hbm, ⟨22, _⟩ => ⟨S2048x256, .f32⟩
  | .hbm, ⟨23, _⟩ => ⟨S2048x256, .bf16⟩
  | .hbm, ⟨24, _⟩ => ⟨S2048x2048, .f32⟩
  | .hbm, ⟨25, _⟩ => ⟨S2048x2048, .bf16⟩
  | .hbm, ⟨26, _⟩ => ⟨S8192x2048, .bf16⟩
  | .hbm, ⟨27, _⟩ => ⟨S8192x512, .bf16⟩
  | .hbm, ⟨28, _⟩ => ⟨S8192x512, .bf16⟩
  | .hbm, ⟨29, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S2048x2048, .bf16⟩
  | .local _ .vmem, ⟨4, _⟩ => ⟨S2048x256, .bf16⟩
  | .local _ .vmem, ⟨5, _⟩ => ⟨S2048x256, .bf16⟩
  | .local _ .vmem, ⟨6, _⟩ => ⟨S2048x2048, .bf16⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x2048, .bf16⟩
  | .local _ .vmem, ⟨14, _⟩ => ⟨S256x2048, .bf16⟩
  | .local _ .vmem, ⟨15, _⟩ => ⟨S256x512, .bf16⟩
  | .local _ .vmem, ⟨16, _⟩ => ⟨S256x512, .bf16⟩
  | .local _ .vmem, ⟨17, _⟩ => ⟨S256x512, .bf16⟩
  | .local _ .vmem, ⟨18, _⟩ => ⟨S256x512, .bf16⟩
  | .local _ .vmem, ⟨19, _⟩ => ⟨S256x2048, .bf16⟩
  | .local _ .vmem, ⟨20, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_cst_1 : Ref sig .tc := ⟨.hbm, 9, rfl⟩
abbrev main_v2 : Ref sig .tc := ⟨.hbm, 10, rfl⟩
abbrev main_cst_2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17_0 : Ref sig .tc := ⟨.hbm, 26, rfl⟩
abbrev main_v17_1 : Ref sig .tc := ⟨.hbm, 27, rfl⟩
abbrev main_v17_2 : Ref sig .tc := ⟨.hbm, 28, rfl⟩
abbrev main_v17_3 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== SwaInRefIdeal.lean ====
abbrev S8192x2048 : Shape := ⟨2, ![8192, 2048]⟩
abbrev S2048 : Shape := ⟨1, ![2048]⟩
abbrev S2048x4608 : Shape := ⟨2, ![2048, 4608]⟩
abbrev S8192x8 : Shape := ⟨2, ![8192, 8]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x4608 : Shape := ⟨2, ![8192, 4608]⟩
abbrev S8192x256 : Shape := ⟨2, ![8192, 256]⟩
abbrev S8192x32x64 : Shape := ⟨3, ![8192, 32, 64]⟩
abbrev S8192x1x8 : Shape := ⟨3, ![8192, 1, 8]⟩
abbrev S8192x32x8 : Shape := ⟨3, ![8192, 32, 8]⟩
abbrev S8192x32x48 : Shape := ⟨3, ![8192, 32, 48]⟩
abbrev S8192x4x64 : Shape := ⟨3, ![8192, 4, 64]⟩
abbrev S8192x4x8 : Shape := ⟨3, ![8192, 4, 8]⟩
abbrev S8192x4x48 : Shape := ⟨3, ![8192, 4, 48]⟩
abbrev S8192x4x128 : Shape := ⟨3, ![8192, 4, 128]⟩
abbrev S8192x512 : Shape := ⟨2, ![8192, 512]⟩

abbrev nBuf : Space → Nat
  | .hbm => 82
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x4608, .f32⟩
  | .hbm, ⟨3, _⟩ => ⟨S8192x8, .f32⟩
  | .hbm, ⟨4, _⟩ => ⟨S8192x8, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S8192x4608, .f32⟩
  | .hbm, ⟨22, _⟩ => ⟨S8192x2048, .f32⟩
  | .hbm, ⟨23, _⟩ => ⟨S8192x256, .f32⟩
  | .hbm, ⟨24, _⟩ => ⟨S8192x256, .f32⟩
  | .hbm, ⟨25, _⟩ => ⟨S8192x2048, .f32⟩
  | .hbm, ⟨26, _⟩ => ⟨S8192x32x64, .f32⟩
  | .hbm, ⟨27, _⟩ => ⟨S8192x1x8, .f32⟩
  | .hbm, ⟨28, _⟩ => ⟨S8192x1x8, .f32⟩
  | .hbm, ⟨29, _⟩ => ⟨S8192x32x8, .f32⟩
  | .hbm, ⟨30, _⟩ => ⟨S8192x32x8, .f32⟩
  | .hbm, ⟨31, _⟩ => ⟨S8192x32x48, .f32⟩
  | .hbm, ⟨32, _⟩ => ⟨S8192x32x8, .f32⟩
  | .hbm, ⟨33, _⟩ => ⟨S8192x32x8, .f32⟩
  | .hbm, ⟨34, _⟩ => ⟨S8192x32x8, .f32⟩
  | .hbm, ⟨35, _⟩ => ⟨S8192x32x8, .f32⟩
  | .hbm, ⟨36, _⟩ => ⟨S8192x32x8, .f32⟩
  | .hbm, ⟨37, _⟩ => ⟨S8192x32x8, .f32⟩
  | .hbm, ⟨38, _⟩ => ⟨S8192x32x8, .f32⟩
  | .hbm, ⟨39, _⟩ => ⟨S8192x32x8, .f32⟩
  | .hbm, ⟨40, _⟩ => ⟨S8192x32x8, .f32⟩
  | .hbm, ⟨41, _⟩ => ⟨S8192x32x8, .f32⟩
  | .hbm, ⟨42, _⟩ => ⟨S8192x32x64, .f32⟩
  | .hbm, ⟨43, _⟩ => ⟨S_, .f32⟩
  | .hbm, ⟨44, _⟩ => ⟨S8192x32x64, .f32⟩
  | .hbm, ⟨45, _⟩ => ⟨S8192x32x64, .f32⟩
  | .hbm, ⟨46, _⟩ => ⟨S8192x4x64, .f32⟩
  | .hbm, ⟨47, _⟩ => ⟨S8192x1x8, .f32⟩
  | .hbm, ⟨48, _⟩ => ⟨S8192x1x8, .f32⟩
  | .hbm, ⟨49, _⟩ => ⟨S8192x4x8, .f32⟩
  | .hbm, ⟨50, _⟩ => ⟨S8192x4x8, .f32⟩
  | .hbm, ⟨51, _⟩ => ⟨S8192x4x48, .f32⟩
  | .hbm, ⟨52, _⟩ => ⟨S8192x4x8, .f32⟩
  | .hbm, ⟨53, _⟩ => ⟨S8192x4x8, .f32⟩
  | .hbm, ⟨54, _⟩ => ⟨S8192x4x8, .f32⟩
  | .hbm, ⟨55, _⟩ => ⟨S8192x4x8, .f32⟩
  | .hbm, ⟨56, _⟩ => ⟨S8192x4x8, .f32⟩
  | .hbm, ⟨57, _⟩ => ⟨S8192x4x8, .f32⟩
  | .hbm, ⟨58, _⟩ => ⟨S8192x4x8, .f32⟩
  | .hbm, ⟨59, _⟩ => ⟨S8192x4x8, .f32⟩
  | .hbm, ⟨60, _⟩ => ⟨S8192x4x8, .f32⟩
  | .hbm, ⟨61, _⟩ => ⟨S8192x4x8, .f32⟩
  | .hbm, ⟨62, _⟩ => ⟨S8192x4x64, .f32⟩
  | .hbm, ⟨63, _⟩ => ⟨S8192x4x64, .f32⟩
  | .hbm, ⟨64, _⟩ => ⟨S8192x2048, .f32⟩
  | .hbm, ⟨65, _⟩ => ⟨S8192x2048, .bf16⟩
  | .hbm, ⟨66, _⟩ => ⟨S8192x4x128, .f32⟩
  | .hbm, ⟨67, _⟩ => ⟨S8192x512, .f32⟩
  | .hbm, ⟨68, _⟩ => ⟨S8192x512, .bf16⟩
  | .hbm, ⟨69, _⟩ => ⟨S8192x4x128, .f32⟩
  | .hbm, ⟨70, _⟩ => ⟨S8192x512, .f32⟩
  | .hbm, ⟨71, _⟩ => ⟨S8192x512, .bf16⟩
  | .hbm, ⟨72, _⟩ => ⟨S8192x2048, .f32⟩
  | .hbm, ⟨73, _⟩ => ⟨S8192x2048, .f32⟩
  | .hbm, ⟨74, _⟩ => ⟨S_, .f32⟩
  | .hbm, ⟨75, _⟩ => ⟨S8192x2048, .f32⟩
  | .hbm, ⟨76, _⟩ => ⟨S8192x2048, .f32⟩
  | .hbm, ⟨77, _⟩ => ⟨S_, .f32⟩
  | .hbm, ⟨78, _⟩ => ⟨S8192x2048, .f32⟩
  | .hbm, ⟨79, _⟩ => ⟨S8192x2048, .f32⟩
  | .hbm, ⟨80, _⟩ => ⟨S8192x2048, .f32⟩
  | .hbm, ⟨81, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_2 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_call0_v0 : Ref sig .tc := ⟨.hbm, 72, rfl⟩
abbrev main_call0_v1 : Ref sig .tc := ⟨.hbm, 73, rfl⟩
abbrev main_call0_cst : Ref sig .tc := ⟨.hbm, 74, rfl⟩
abbrev main_call0_v2 : Ref sig .tc := ⟨.hbm, 75, rfl⟩
abbrev main_call0_v3 : Ref sig .tc := ⟨.hbm, 76, rfl⟩
abbrev main_call0_cst_0 : Ref sig .tc := ⟨.hbm, 77, rfl⟩
abbrev main_call0_v4 : Ref sig .tc := ⟨.hbm, 78, rfl⟩
abbrev main_call0_v5 : Ref sig .tc := ⟨.hbm, 79, rfl⟩
abbrev main_v63 : Ref sig .tc := ⟨.hbm, 80, rfl⟩
abbrev main_v64 : Ref sig .tc := ⟨.hbm, 81, rfl⟩

abbrev nD : Nat := 1
abbrev τ : Topo := Topo.v7x

variable {F : FTy → Type} [FloatOps F]
-- ==== Proof.SoftmaxMath.lean ====
/- The arithmetic of a softmax taken block by block over the extended reals: running maximum, running denominator and
   running weighted sum of a row of scores, how one block of keys extends them, and what their quotient is. Nothing here
   speaks of a program. A score may be −∞ (a masked key) but not +∞. -/
module

public import Idealize.ShloMosaic.Lib.Pointwise
public import Idealize.ShloMosaic.PureOps.Ideal.Laws

@[expose] public section

noncomputable section

namespace Cert.SoftmaxMath

open Idealize.ShloMosaic

/-- The exponential is nowhere negative. -/
theorem exp_nonneg (x : EReal) : 0 ≤ Ideal.exp x := by
  induction x with
  | bot => exact le_refl _
  | top => exact le_top
  | coe r => rw [Ideal.exp_coe]; exact_mod_cast (Real.exp_pos r).le

/-- The exponential is finite where its argument is not +∞. -/
theorem exp_ne_top {x : EReal} (h : x ≠ ⊤) : Ideal.exp x ≠ ⊤ := by
  induction x with
  | bot => exact EReal.zero_ne_top
  | top => exact absurd rfl h
  | coe r => rw [Ideal.exp_coe]; exact EReal.coe_ne_top _

/-- The exponential of −∞ is 0. -/
theorem exp_bot : Ideal.exp ⊥ = 0 := rfl

/-- −∞ less anything is −∞. -/
theorem bot_sub' (x : EReal) : (⊥ : EReal) - x = ⊥ := by rw [sub_eq_add_neg, EReal.bot_add]

/-- A difference of a value that is not +∞ and a larger or equal one is not +∞. -/
theorem sub_ne_top {x y : EReal} (hxy : x ≤ y) (hy : y ≠ ⊤) : x - y ≠ ⊤ := by
  induction x with
  | bot => rw [bot_sub']; exact bot_ne_top
  | top => exact absurd (top_le_iff.mp hxy) hy
  | coe r =>
    induction y with
    | bot => exact absurd (le_bot_iff.mp hxy) (EReal.coe_ne_bot r)
    | top => exact absurd rfl hy
    | coe q => rw [← EReal.coe_sub]; exact EReal.coe_ne_top _

/-- Weights taken against a maximum `M` become weights against a larger maximum `M'` by one factor. -/
theorem rescale {s M M' : EReal} (h : s ≤ M) (h' : M ≤ M') (ht : M' ≠ ⊤) :
    Ideal.exp (M - M') * Ideal.exp (s - M) = Ideal.exp (s - M') := by
  induction s with
  | bot => rw [bot_sub', bot_sub', exp_bot, mul_zero]
  | top => exact absurd (top_le_iff.mp (h.trans h')) ht
  | coe a =>
    induction M with
    | bot => exact absurd (le_bot_iff.mp h) (EReal.coe_ne_bot a)
    | top => exact absurd (top_le_iff.mp h') ht
    | coe b =>
      induction M' with
      | bot => exact absurd (le_bot_iff.mp h') (EReal.coe_ne_bot b)
      | top => exact absurd rfl ht
      | coe d =>
        rw [← EReal.coe_sub, ← EReal.coe_sub, ← EReal.coe_sub, Ideal.exp_coe, Ideal.exp_coe, Ideal.exp_coe, ← EReal.coe_mul,
          ← Real.exp_add]
        congr 2; ring

/-- A finite factor that is not negative goes into a sum. -/
theorem mul_sum_of {ι : Type} (S : Finset ι) (f : ι → EReal) {x : EReal} (h0 : 0 ≤ x) (ht : x ≠ ⊤) :
    x * ∑ i ∈ S, f i = ∑ i ∈ S, x * f i := by
  classical
  induction S using Finset.induction_on with
  | empty => simp
  | insert a S ha ih => rw [Finset.sum_insert ha, Finset.sum_insert ha, EReal.left_distrib_of_nonneg_of_ne_top h0 ht, ih]

/-- The largest of the first `n` scores (−∞ of none). -/
def mx (s : ℕ → EReal) (n : ℕ) : EReal := (Finset.range n).sup s

/-- The sum of the first `n` weights. -/
def den (s : ℕ → EReal) (n : ℕ) : EReal := ∑ k ∈ Finset.range n, Ideal.exp (s k - mx s n)

/-- The sum of the first `n` values by their weights. -/
def num (s v : ℕ → EReal) (n : ℕ) : EReal := ∑ k ∈ Finset.range n, Ideal.exp (s k - mx s n) * v k

/-- The maximum of no scores. -/
theorem mx_zero (s : ℕ → EReal) : mx s 0 = ⊥ := rfl
/-- The denominator of no scores. -/
theorem den_zero (s : ℕ → EReal) : den s 0 = 0 := rfl
/-- The numerator of no scores. -/
theorem num_zero (s v : ℕ → EReal) : num s v 0 = 0 := rfl

/-- A score is at most the maximum. -/
theorem le_mx (s : ℕ → EReal) {n k : ℕ} (h : k < n) : s k ≤ mx s n := Finset.le_sup (f := s) (Finset.mem_range.mpr h)

/-- The maximum of more scores is no less. -/
theorem mx_mono (s : ℕ → EReal) {n n' : ℕ} (h : n ≤ n') : mx s n ≤ mx s n' := Finset.sup_mono (Finset.range_mono h)

/-- The maximum of scores none of which is plus infinity is not plus infinity. -/
theorem mx_ne_top {s : ℕ → EReal} (hs : ∀ k, s k ≠ ⊤) (n : ℕ) : mx s n ≠ ⊤ := by
  unfold mx
  refine ne_of_lt ((Finset.sup_lt_iff (by exact bot_lt_top)).mpr fun k _ => lt_top_iff_ne_top.mpr (hs k))

/-- A fold of the maximum over `Fin b`, begun at −∞, is the supremum. -/
theorem fold_max_eq {b : ℕ} (f : Fin b → EReal) : Finset.univ.fold max ⊥ f = Finset.univ.sup f := rfl

/-- The maximum, extended by a block of `b` keys. -/
theorem mx_add (s : ℕ → EReal) (n b : ℕ) :
    mx s (n + b) = max (mx s n) (Finset.univ.fold max ⊥ fun k : Fin b => s (n + k)) := by
  rw [fold_max_eq]
  unfold mx
  apply le_antisymm
  · refine Finset.sup_le fun k hk => ?_
    rw [Finset.mem_range] at hk
    by_cases h : k < n
    · exact le_max_of_le_left (Finset.le_sup (f := s) (Finset.mem_range.mpr h))
    · refine le_max_of_le_right ?_
      have := Finset.le_sup (f := fun k : Fin b => s (n + k)) (Finset.mem_univ (⟨k - n, by omega⟩ : Fin b))
      simpa [Nat.add_sub_cancel' (Nat.le_of_not_lt h)] using this
  · refine max_le (Finset.sup_mono (Finset.range_mono (by omega))) (Finset.sup_le fun k _ => ?_)
    exact Finset.le_sup (f := s) (Finset.mem_range.mpr (by omega))

/-- The denominator, extended by a block of `b` keys. -/
theorem den_add {s : ℕ → EReal} (hs : ∀ k, s k ≠ ⊤) (n b : ℕ) :
    den s (n + b) = Ideal.exp (mx s n - mx s (n + b)) * den s n + ∑ k : Fin b, Ideal.exp (s (n + k) - mx s (n + b)) := by
  have hle := mx_mono s (Nat.le_add_right n b)
  have ht := mx_ne_top hs (n + b)
  unfold den
  rw [Finset.sum_range_add, ← Finset.sum_range (fun k => Ideal.exp (s (n + k) - mx s (n + b))), mul_sum_of _ _ (exp_nonneg _) (exp_ne_top (sub_ne_top hle ht))]
  congr 1
  exact Finset.sum_congr rfl fun k hk => (rescale (le_mx s (Finset.mem_range.mp hk)) hle ht).symm

/-- The weighted sum, extended by a block of `b` keys. -/
theorem num_add {s : ℕ → EReal} (hs : ∀ k, s k ≠ ⊤) (v : ℕ → EReal) (n b : ℕ) :
    num s v (n + b)
      = Ideal.exp (mx s n - mx s (n + b)) * num s v n + ∑ k : Fin b, Ideal.exp (s (n + k) - mx s (n + b)) * v (n + k) := by
  have hle := mx_mono s (Nat.le_add_right n b)
  have ht := mx_ne_top hs (n + b)
  unfold num
  rw [Finset.sum_range_add, ← Finset.sum_range (fun k => Ideal.exp (s (n + k) - mx s (n + b)) * v (n + k)), mul_sum_of _ _ (exp_nonneg _) (exp_ne_top (sub_ne_top hle ht))]
  congr 1
  refine Finset.sum_congr rfl fun k hk => ?_
  rw [← mul_assoc, rescale (le_mx s (Finset.mem_range.mp hk)) hle ht]

/-- Keys masked out do not move the maximum. -/
theorem mx_pad {s : ℕ → EReal} {n N : ℕ} (hn : n ≤ N) (hb : ∀ k, n ≤ k → s k = ⊥) : mx s N = mx s n := by
  apply le_antisymm
  · refine Finset.sup_le fun k _ => ?_
    by_cases h : k < n
    · exact le_mx s h
    · rw [hb k (Nat.le_of_not_lt h)]; exact bot_le
  · exact mx_mono s hn

/-- Keys masked out add nothing to the denominator. -/
theorem den_pad {s : ℕ → EReal} {n N : ℕ} (hn : n ≤ N) (hb : ∀ k, n ≤ k → s k = ⊥) : den s N = den s n := by
  unfold den
  rw [mx_pad hn hb]
  refine (Finset.sum_subset (Finset.range_mono hn) fun k _ hk => ?_).symm
  rw [hb k (by simpa using hk), bot_sub', exp_bot]

/-- Keys masked out add nothing to the weighted sum. -/
theorem num_pad {s : ℕ → EReal} (v : ℕ → EReal) {n N : ℕ} (hn : n ≤ N) (hb : ∀ k, n ≤ k → s k = ⊥) : num s v N = num s v n := by
  unfold num
  rw [mx_pad hn hb]
  refine (Finset.sum_subset (Finset.range_mono hn) fun k _ hk => ?_).symm
  rw [hb k (by simpa using hk), bot_sub', exp_bot, zero_mul]

/-- With one score finite the denominator is not 0. -/
theorem den_ne_zero {s : ℕ → EReal} (hs : ∀ k, s k ≠ ⊤) {n k : ℕ} (hk : k < n) (hb : s k ≠ ⊥) : den s n ≠ 0 := by
  intro h0
  have hall := (Finset.sum_eq_zero_iff_of_nonneg (fun i _ => exp_nonneg _)).mp h0 k (Finset.mem_range.mpr hk)
  have hle := le_mx s hk
  have ht := mx_ne_top hs n
  revert hall hle ht
  generalize mx s n = M
  induction M with
  | bot => intro _ hle _; exact hb (le_bot_iff.mp hle)
  | top => intro _ _ ht; exact ht rfl
  | coe r =>
    have hsk := hs k
    revert hb hsk
    generalize s k = x
    intro hb hsk hall _ _
    lift x to ℝ using ⟨hsk, hb⟩
    rw [← EReal.coe_sub, Ideal.exp_coe] at hall
    exact (Real.exp_pos _).ne' (by exact_mod_cast hall)

/-- The denominator is not negative. -/
theorem den_nonneg (s : ℕ → EReal) (n : ℕ) : 0 ≤ den s n := Finset.sum_nonneg fun _ _ => exp_nonneg _

/-- An inverse is never +∞ here. -/
theorem inv_ne_top (x : EReal) : x⁻¹ ≠ ⊤ := by
  induction x with
  | bot => rw [EReal.inv_bot]; exact EReal.zero_ne_top
  | top => rw [EReal.inv_top]; exact EReal.zero_ne_top
  | coe r => rw [← EReal.coe_inv]; exact EReal.coe_ne_top _

/-- A quotient by something other than 0 is a product with its inverse. -/
theorem div_of_ne {x y : EReal} (h : y ≠ 0) : Ideal.div x y = x * y⁻¹ := if_neg h

/-- THE QUOTIENT: the weighted sum of the first `n` keys by the reciprocal of their denominator is the sum of the values by
    the normalised weights. -/
theorem num_mul_inv {s : ℕ → EReal} (v : ℕ → EReal) {n : ℕ} (h0 : den s n ≠ 0) :
    num s v n * Ideal.div 1 (den s n) = ∑ k : Fin n, Ideal.div (Ideal.exp (s k - mx s n)) (den s n) * v k := by
  rw [div_of_ne h0, one_mul, mul_comm]
  unfold num
  rw [mul_sum_of _ _ (EReal.inv_nonneg_of_nonneg (den_nonneg s n)) (inv_ne_top _),
    ← Finset.sum_range (fun k => Ideal.div (Ideal.exp (s k - mx s n)) (den s n) * v k)]
  refine Finset.sum_congr rfl fun k _ => ?_
  rw [div_of_ne h0, ← mul_assoc, mul_comm _ (Ideal.exp _)]

/-- The maximum of all `N` scores, folded over `Fin N`. -/
theorem fold_mx (s : ℕ → EReal) (N : ℕ) : (Finset.univ.fold max ⊥ fun k : Fin N => s k) = mx s N := by
  have := mx_add s 0 N
  simp only [Nat.zero_add, mx_zero] at this
  rw [this, max_eq_right bot_le]

/-- The denominator of all `N` scores, summed over `Fin N`. -/
theorem sum_den (s : ℕ → EReal) (N : ℕ) : (∑ k : Fin N, Ideal.exp (s k - mx s N)) = den s N :=
  (Finset.sum_range (fun k => Ideal.exp (s k - mx s N))).symm

end Cert.SoftmaxMath

end
-- ==== Proof.FlashBlock.lean ====
/- One step of the attention kernel's blockwise softmax, read at an index: the scores of a block of keys, the running maximum,
   denominator and weighted sum, and the block's last quotient. -/
module

public import proofs.«01_k».proof.Proof.Gen.FlashIdeal.Value
public import proofs.«01_k».proof.Proof.SoftmaxMath
public import Idealize.ShloMosaic.Lib.Claim
public import Idealize.ShloMosaic.Lib.Pointwise
public import Idealize.ShloMosaic.Lib.Pipeline.ValueKit

@[expose] public section

set_option maxRecDepth 16384

noncomputable section

namespace Cert.FlashBlock

open Cert.FlashIdeal Cert.FlashIdeal.Gen Idealize.ShloMosaic Idealize.ShloMosaic.TcCoe Idealize.SL.Sem Cert.SoftmaxMath

/-- The queries' scores against a block of keys, unmasked. -/
abbrev sU (a b : FVec Ideal S512x128 .bf16) (kc : FVec Ideal S512x256 .bf16) : FVec Ideal S512x512 .f32 :=
  matmul dot_S512x256_S512x256_S512x512_1_1_0_0_n_n none
    (concatenate S512x256 1 [⟨S512x128, a⟩, ⟨S512x128, b⟩] concatenates_S512x128_S512x128_S512x256_d1) kc (constant S512x512 .f32 0x00000000#32)

/-- The same on the diagonal block: a key after its query is masked. -/
abbrev sM (a b : FVec Ideal S512x128 .bf16) (kc : FVec Ideal S512x256 .bf16) : FVec Ideal S512x512 .f32 :=
  select k0_pay3 (sU a b kc) (broadcast S512x512 (Named.named κ "mask" 0xF149F2CA#32))

/-- The running maximum after a block of scores `S`. -/
abbrev mNew (S : FVec Ideal S512x512 .f32) (M : FVec Ideal S512x1 .f32) : FVec Ideal S512x1 .f32 :=
  maximumf M (shapeCast S512x1 (multiReduction .maximumf [1] S512 S 0xFF800000#32 reduces_S512x512_S512 (.inl rfl) rfl) shapeCasts_S512_S512x1)

/-- The weights of the block. -/
abbrev pNew (S : FVec Ideal S512x512 .f32) (M : FVec Ideal S512x1 .f32) : FVec Ideal S512x512 .f32 :=
  exp (subf S (broadcastTo S512x512 (mNew S M) broadcasts_S512x1_S512x512))

/-- The running denominator after the block. -/
abbrev lNew (S : FVec Ideal S512x512 .f32) (M L : FVec Ideal S512x1 .f32) : FVec Ideal S512x1 .f32 :=
  shapeCast S512x1 (addf (mulf (exp (subf M (mNew S M))) L)
    (shapeCast S512x1 (multiReduction .add [1] S512 (pNew S M) 0x00000000#32 reduces_S512x512_S512 (.inl rfl) rfl) shapeCasts_S512_S512x1)) shapeCasts_S512x1_S512x1

/-- The running weighted sum after the block. -/
abbrev aNew (S : FVec Ideal S512x512 .f32) (M : FVec Ideal S512x1 .f32) (A : FVec Ideal S512x128 .f32) (V : FVec Ideal S512x128 .bf16) :
    FVec Ideal S512x128 .f32 :=
  shapeCast S512x128 (addf (mulf (broadcastTo S512x128 (exp (subf M (mNew S M))) broadcasts_S512x1_S512x128) A)
    (matmul dot_S512x512_S512x128_S512x128_1_0_0_1_n_n none (truncf .bf16 (pNew S M) bitsLt_bf16_f32) V (constant S512x128 .f32 0x00000000#32)))
    shapeCasts_S512x128_S512x128

/-- The block's result: the weighted sum by the reciprocal of the denominator, by the gate. -/
abbrev fin (A : FVec Ideal S512x128 .f32) (L : FVec Ideal S512x1 .f32) (g : FVec Ideal S512x128 .bf16) : FVec Ideal S512x128 .bf16 :=
  truncf .bf16 (mulf (mulf A (broadcastTo S512x128 (divf (broadcast S512x1 (Scalar.ofBits .f32 0x3F800000#32)) L) broadcasts_S512x1_S512x128))
    (extf .f32 g bitsLt_bf16_f32)) bitsLt_bf16_f32

/-- The new running maximum at a row: the old one, or the largest score of the block. -/
theorem mNew_apply (S : FVec Ideal S512x512 .f32) (M : FVec Ideal S512x1 .f32) (r : Fin 512) (z : Fin 1) :
    mNew S M (ix2 r z) = max (M (ix2 r z)) (Finset.univ.fold max ⊥ fun k : Fin 512 => S (ix2 r k)) := by
  pointwise [mNew]
  exact congrArg (max _) (congrArg (fun b => Finset.fold max b (fun k => S (ix2 r k)) Finset.univ) (by rfl))

/-- The new running denominator at a row: the old one rescaled, plus the block's weights. -/
theorem lNew_apply (S : FVec Ideal S512x512 .f32) (M L : FVec Ideal S512x1 .f32) (r : Fin 512) (z : Fin 1) :
    lNew S M L (ix2 r z) = Ideal.exp (M (ix2 r z) - mNew S M (ix2 r z)) * L (ix2 r z)
      + ∑ k : Fin 512, Ideal.exp (S (ix2 r k) - mNew S M (ix2 r 0)) := by
  generalize h : mNew S M = M'
  unfold lNew pNew
  rw [h]
  pointwise []

/-- The new running numerator at a row and lane: the old one rescaled, plus the block's weighted values. -/
theorem aNew_apply (S : FVec Ideal S512x512 .f32) (M : FVec Ideal S512x1 .f32) (A : FVec Ideal S512x128 .f32) (V : FVec Ideal S512x128 .bf16)
    (r : Fin 512) (j : Fin 128) :
    aNew S M A V (ix2 r j) = Ideal.exp (M (ix2 r 0) - mNew S M (ix2 r 0)) * A (ix2 r j)
      + ∑ k : Fin 512, Ideal.exp (S (ix2 r k) - mNew S M (ix2 r 0)) * V (ix2 k j) := by
  generalize h : mNew S M = M'
  unfold aNew pNew
  rw [h]
  pointwise []

/-- The stored result at a row and lane: numerator over denominator, times the gate. -/
theorem fin_apply (A : FVec Ideal S512x128 .f32) (L : FVec Ideal S512x1 .f32) (g : FVec Ideal S512x128 .bf16) (r : Fin 512) (j : Fin 128) :
    fin A L g (ix2 r j) = A (ix2 r j) * Ideal.div 1 (L (ix2 r 0)) * g (ix2 r j) := by
  pointwise [fin]

/-- The score of a query and a key of a block below the diagonal. -/
theorem sU_apply (a b : FVec Ideal S512x128 .bf16) (kc : FVec Ideal S512x256 .bf16) (r k : Fin 512) :
    sU a b kc (ix2 r k) = (∑ d : Fin 128, a (ix2 r d) * kc (ix2 k (Fin.castAdd 128 d))) + ∑ d : Fin 128, b (ix2 r d) * kc (ix2 k (Fin.natAdd 128 d)) := by
  pointwise [sU]
  rfl

/-- The score of a query and a key of a block on the diagonal: minus infinity where the key is later. -/
theorem sM_apply (a b : FVec Ideal S512x128 .bf16) (kc : FVec Ideal S512x256 .bf16) (r k : Fin 512) :
    sM a b kc (ix2 r k) = if k.val ≤ r.val then sU a b kc (ix2 r k) else ⊥ := by
  generalize h : sU a b kc = S
  unfold sM
  rw [h]
  pointwise [k0_pay3]
  rw [show (Named.named κ "mask" 0xF149F2CA#32 : Ideal .f32) = ⊥ from IdealRules.named_const.ideal_named_scalar _ _ _ _ rfl]
  word_cmp

/-- The state a row's running softmax is in after `n` keys: `s` the scores of the 512 rows, `v` the values. -/
structure Rep (s : Fin 512 → ℕ → EReal) (v : Fin 128 → ℕ → EReal) (n : ℕ) (M L : FVec Ideal S512x1 .f32) (A : FVec Ideal S512x128 .f32) : Prop where
  max : ∀ r : Fin 512, M (ix2 r 0) = mx (s r) n
  den : ∀ r : Fin 512, L (ix2 r 0) = den (s r) n
  num : ∀ (r : Fin 512) (j : Fin 128), A (ix2 r j) = num (s r) (v j) n

/-- ONE STEP: a block of scores and values carries the state from `n` keys to `n + 512`. -/
theorem Rep.step {s : Fin 512 → ℕ → EReal} {v : Fin 128 → ℕ → EReal} {n : ℕ} {M L : FVec Ideal S512x1 .f32} {A : FVec Ideal S512x128 .f32}
    (S : FVec Ideal S512x512 .f32) (V : FVec Ideal S512x128 .bf16) (hs : ∀ r k, s r k ≠ ⊤) (hS : ∀ r k : Fin 512, S (ix2 r k) = s r (n + k))
    (hV : ∀ (k : Fin 512) (j : Fin 128), V (ix2 k j) = v j (n + k)) (h : Rep s v n M L A) :
    Rep s v (n + 512) (mNew S M) (lNew S M L) (aNew S M A V) := by
  have hm : ∀ r : Fin 512, mNew S M (ix2 r 0) = mx (s r) (n + 512) := fun r => by
    rw [mNew_apply, h.max, mx_add]
    simp only [hS]
  refine ⟨hm, fun r => ?_, fun r j => ?_⟩
  · rw [lNew_apply, hm, h.max, h.den, den_add (hs r)]
    simp only [hS]
  · rw [aNew_apply, hm, h.max, h.num, num_add (hs r)]
    simp only [hS, hV]

/-- Before the first key. -/
theorem Rep.init (s : Fin 512 → ℕ → EReal) (v : Fin 128 → ℕ → EReal) {M L : FVec Ideal S512x1 .f32} {A : FVec Ideal S512x128 .f32}
    (hM : ∀ r : Fin 512, M (ix2 r 0) = ⊥) (hL : ∀ r : Fin 512, L (ix2 r 0) = 0) (hA : ∀ (r : Fin 512) (j : Fin 128), A (ix2 r j) = 0) :
    Rep s v 0 M L A :=
  ⟨hM, hL, hA⟩

/-- The block's result at an index, from the state after its last block of keys. -/
theorem Rep.fin {s : Fin 512 → ℕ → EReal} {v : Fin 128 → ℕ → EReal} {n : ℕ} {M L : FVec Ideal S512x1 .f32} {A : FVec Ideal S512x128 .f32}
    (g : FVec Ideal S512x128 .bf16) (h : Rep s v n M L A) (r : Fin 512) (j : Fin 128) :
    fin A L g (ix2 r j) = SoftmaxMath.num (s r) (v j) n * Ideal.div 1 (SoftmaxMath.den (s r) n) * g (ix2 r j) := by
  rw [fin_apply, h.num, h.den]

/-- The running maximum starts at minus infinity. -/
theorem pay4_apply (r : Fin 512) : k0_pay4 (F := Ideal) (ix2 r 0) = ⊥ := by
  pointwise [k0_pay4]
  exact IdealRules.named_const.ideal_named_scalar _ _ _ _ rfl
/-- The same, of the second block of queries. -/
theorem pay17_apply (r : Fin 512) : k0_pay17 (F := Ideal) (ix2 r 0) = ⊥ := pay4_apply r
/-- The same, of the third block of queries. -/
theorem pay37_apply (r : Fin 512) : k0_pay37 (F := Ideal) (ix2 r 0) = ⊥ := pay4_apply r
/-- The same, of the fourth block of queries. -/
theorem pay57_apply (r : Fin 512) : k0_pay57 (F := Ideal) (ix2 r 0) = ⊥ := pay4_apply r
/-- The running denominator starts at zero. -/
theorem pay5_apply (r : Fin 512) : k0_pay5 (F := Ideal) (ix2 r 0) = 0 := by pointwise [k0_pay5]
/-- The same, of the second block of queries. -/
theorem pay18_apply (r : Fin 512) : k0_pay18 (F := Ideal) (ix2 r 0) = 0 := pay5_apply r
/-- The same, of the third block of queries. -/
theorem pay38_apply (r : Fin 512) : k0_pay38 (F := Ideal) (ix2 r 0) = 0 := pay5_apply r
/-- The same, of the fourth block of queries. -/
theorem pay58_apply (r : Fin 512) : k0_pay58 (F := Ideal) (ix2 r 0) = 0 := pay5_apply r
/-- The running numerator starts at zero. -/
theorem pay6_apply (r : Fin 512) (j : Fin 128) : k0_pay6 (F := Ideal) (ix2 r j) = 0 := by pointwise [k0_pay6]
/-- The same, of the second block of queries. -/
theorem pay19_apply (r : Fin 512) (j : Fin 128) : k0_pay19 (F := Ideal) (ix2 r j) = 0 := pay6_apply r j
/-- The same, of the third block of queries. -/
theorem pay39_apply (r : Fin 512) (j : Fin 128) : k0_pay39 (F := Ideal) (ix2 r j) = 0 := pay6_apply r j
/-- The same, of the fourth block of queries. -/
theorem pay59_apply (r : Fin 512) (j : Fin 128) : k0_pay59 (F := Ideal) (ix2 r j) = 0 := pay6_apply r j

/-- A query's score against a key of its batch row: the 128 plain lanes and the 128 rotary ones. -/
def sc (a b kn kr : FVec Ideal S2048x128 .bf16) (q k : Fin 2048) : EReal :=
  (∑ d : Fin 128, a (ix2 q d) * kn (ix2 k d)) + ∑ d : Fin 128, b (ix2 q d) * kr (ix2 k d)

/-- The scores of query `q` by the key's number: −∞ after the query. -/
def sN (a b kn kr : FVec Ideal S2048x128 .bf16) (q : Fin 2048) (k : ℕ) : EReal :=
  if h : k ≤ q.val then sc a b kn kr q ⟨k, lt_of_le_of_lt h q.isLt⟩ else ⊥

/-- The values by the key's number. -/
def vN (v : FVec Ideal S2048x128 .bf16) (j : Fin 128) (k : ℕ) : EReal :=
  if h : k < 2048 then v (ix2 ⟨k, h⟩ j) else 0

/-- Row `r` of the chunk of queries at row `o`. -/
abbrev row (o : ℕ) (ho : o + 512 ≤ 2048) (r : Fin 512) : Fin 2048 := ⟨o + r.val, by omega⟩

/-- The joined keys as they are read at row `p`. -/
def KB (kn kr : FVec Ideal S2048x128 .bf16) (p : ℕ) (K : FVec Ideal S512x256 .bf16) : Prop :=
  ∀ (k : Fin 512) (h : p + k.val < 2048) (d : Fin 128), K (ix2 k (Fin.castAdd 128 d)) = kn (ix2 ⟨p + k.val, h⟩ d) ∧ K (ix2 k (Fin.natAdd 128 d)) = kr (ix2 ⟨p + k.val, h⟩ d)

/-- Rows `p`, `p + 1`, … of an array. -/
def RB (x : FVec Ideal S2048x128 .bf16) (p : ℕ) (X : FVec Ideal S512x128 .bf16) : Prop :=
  ∀ (k : Fin 512) (h : p + k.val < 2048) (d : Fin 128), X (ix2 k d) = x (ix2 ⟨p + k.val, h⟩ d)

/-- The unmasked scores of a block of keys before the chunk of queries. -/
theorem sU_rep {x0 x1 x2 x3 : FVec Ideal S2048x128 .bf16} {o p : ℕ} (ho : o + 512 ≤ 2048) (hp : p + 512 ≤ o) {a b : FVec Ideal S512x128 .bf16}
    {K : FVec Ideal S512x256 .bf16} (ha : RB x0 o a) (hb : RB x1 o b) (hK : KB x2 x3 p K) (r k : Fin 512) :
    sU a b K (ix2 r k) = sN x0 x1 x2 x3 (row o ho r) (p + k.val) := by
  rw [sU_apply, sN, dif_pos (by show p + k.val ≤ o + r.val; omega), sc]
  simp only [ha r (by omega), hb r (by omega), (hK k (by omega) _).1, (hK k (by omega) _).2]

/-- The masked scores of the diagonal block. -/
theorem sM_rep {x0 x1 x2 x3 : FVec Ideal S2048x128 .bf16} {o : ℕ} (ho : o + 512 ≤ 2048) {a b : FVec Ideal S512x128 .bf16}
    {K : FVec Ideal S512x256 .bf16} (ha : RB x0 o a) (hb : RB x1 o b) (hK : KB x2 x3 o K) (r k : Fin 512) :
    sM a b K (ix2 r k) = sN x0 x1 x2 x3 (row o ho r) (o + k.val) := by
  rw [sM_apply]
  by_cases h : k.val ≤ r.val
  · rw [if_pos h, sU_apply, sN, dif_pos (by show o + k.val ≤ o + r.val; omega), sc]
    simp only [ha r (by omega), hb r (by omega), (hK k (by omega) _).1, (hK k (by omega) _).2]
  · rw [if_neg h, sN, dif_neg (by show ¬ o + k.val ≤ o + r.val; omega)]

/-- The values of a block of keys. -/
theorem vN_rep {x4 : FVec Ideal S2048x128 .bf16} {p : ℕ} (hp : p + 512 ≤ 2048) {V : FVec Ideal S512x128 .bf16} (hV : RB x4 p V) (k : Fin 512) (j : Fin 128) :
    V (ix2 k j) = vN x4 j (p + k.val) := by
  rw [vN, dif_pos (by omega), hV k (by omega)]

end Cert.FlashBlock

end
-- ==== Proof.FlashLoop.lean ====
/- The attention kernel's reads of its joined keys and of its chunks of queries, keys and values, and its two counted loops. -/
module

public import proofs.«01_k».proof.Proof.Gen.FlashIdeal.Value
public import proofs.«01_k».proof.Proof.FlashBlock
public import Idealize.ShloMosaic.Lib.VecWindow
public import Idealize.ShloMosaic.Lib.Claim
public import Idealize.ShloMosaic.Lib.Pointwise
public import Idealize.ShloMosaic.Lib.Pipeline.ValueKit

@[expose] public section

set_option maxRecDepth 16384

noncomputable section

namespace Cert.FlashBlock

open Cert.FlashIdeal Cert.FlashIdeal.Gen Idealize.ShloMosaic Idealize.ShloMosaic.TcCoe Idealize.SL.Sem Cert.SoftmaxMath

/-- The state, at values given by equations. -/
theorem Rep.congr {s : Fin 512 → ℕ → EReal} {v : Fin 128 → ℕ → EReal} {n : ℕ} {M M' L L' : FVec Ideal S512x1 .f32} {A A' : FVec Ideal S512x128 .f32}
    (hM : M' = M) (hL : L' = L) (hA : A' = A) (h : Rep s v n M L A) : Rep s v n M' L' A' := by
  subst hM hL hA
  exact h

/-- The maximum as it is stored. -/
theorem Rep.stored {s : Fin 512 → ℕ → EReal} {v : Fin 128 → ℕ → EReal} {n : ℕ} {M L : FVec Ideal S512x1 .f32} {A : FVec Ideal S512x128 .f32}
    (h : Rep s v n M L A) : Rep s v n (shapeCast S512x1 M shapeCasts_S512x1_S512x1) L A :=
  ⟨fun r => by rw [← h.max]; pointwise, h.den, h.num⟩

/-- Two stores side by side, read back in the left one. -/
theorem joined_left {κ : Kind} {sp : Space} {e : EltTy} (v : View sig κ sp S2048x256 e) (f : v.ty.Contents (Elt Ideal)) (w0 w1 : S2048x128.Idx → Elt Ideal e)
    (q : Fin 2048) (d : Fin 128) :
    v.read (Elt Ideal) (v.writes (Elt Ideal) f [⟨Rect.unit (s := S2048x256) ![0, 128] ![2048, 128] inb_S2048x256_S2048x128_0_128, w1⟩,
        ⟨Rect.unit (s := S2048x256) ![0, 0] ![2048, 128] inb_S2048x256_S2048x128_0_0, w0⟩]) (ix2 q (Fin.castAdd 128 d)) = w0 (ix2 q d) := by
  refine (View.read_writes_cons_unit_of_not_mem v f (off := ![0, 128]) (size := ![2048, 128]) inb_S2048x256_S2048x128_0_128 w1 _ (ix2 q (Fin.castAdd 128 d)) rfl (1 : Fin 2)
    (.inl (by show d.val < 128; omega))).trans ?_
  refine View.read_writes_cons_unit_of_mem v f _ w0 _ (ix2 q (Fin.castAdd 128 d)) (ix2 q d) rfl fun a => ?_
  match a with
  | ⟨0, _⟩ => show q.val = 0 + q.val; omega
  | ⟨1, _⟩ => show d.val = 0 + d.val; omega

/-- Two stores side by side, read back in the right one. -/
theorem joined_right {κ : Kind} {sp : Space} {e : EltTy} (v : View sig κ sp S2048x256 e) (f : v.ty.Contents (Elt Ideal)) (w0 w1 : S2048x128.Idx → Elt Ideal e)
    (q : Fin 2048) (d : Fin 128) :
    v.read (Elt Ideal) (v.writes (Elt Ideal) f [⟨Rect.unit (s := S2048x256) ![0, 128] ![2048, 128] inb_S2048x256_S2048x128_0_128, w1⟩,
        ⟨Rect.unit (s := S2048x256) ![0, 0] ![2048, 128] inb_S2048x256_S2048x128_0_0, w0⟩]) (ix2 q (Fin.natAdd 128 d)) = w1 (ix2 q d) := by
  refine View.read_writes_cons_unit_of_mem v f _ w1 _ (ix2 q (Fin.natAdd 128 d)) (ix2 q d) rfl fun a => ?_
  match a with
  | ⟨0, _⟩ => show q.val = 0 + q.val; omega
  | ⟨1, _⟩ => show 128 + d.val = 128 + d.val; rfl

/-- What is copied of the keys to the left half of the joined buffer is the keys. -/
theorem pay1_apply (x : FVec Ideal S2048x128 .bf16) (q : Fin 2048) (d : Fin 128) : k0_pay1 (F := Ideal) x (ix2 q d) = x (ix2 q d) := by pointwise [k0_pay1]
/-- What is copied of the rotary keys to the right half of the joined buffer is the rotary keys. -/
theorem pay2_apply (x : FVec Ideal S2048x128 .bf16) (q : Fin 2048) (d : Fin 128) : k0_pay2 (F := Ideal) x (ix2 q d) = x (ix2 q d) := by pointwise [k0_pay2]

/-- Where row `k`, lane `d` of a chunk of 512 rows at row `p` of the joined keys lies. -/
theorem idx_at (p : ℕ) (inb : ∀ a, (![p, 0] : Fin 2 → ℕ) a + (![512, 256] : Fin 2 → ℕ) a ≤ S2048x256.size a) (k : Fin 512) (h : p + k.val < 2048) (d : Fin 256) :
    (Rect.unit (s := S2048x256) ![p, 0] ![512, 256] inb).toLoadRect.idx (ix2 k d) = (ix2 ⟨p + k.val, h⟩ d : S2048x256.Idx) := by
  funext a
  apply Fin.ext
  match a with
  | ⟨0, _⟩ => show p + 1 * k.val = p + k.val; omega
  | ⟨1, _⟩ => show 0 + 1 * d.val = d.val; omega

/-- The joined keys read back at row `p`: the plain lanes and the rotary ones. -/
theorem kcat_read (x2 x3 : FVec Ideal S2048x128 .bf16) (off : Fin 2 → ℕ) (p : ℕ) (hoff : off = ![p, 0]) (inb : ∀ a, off a + (![512, 256] : Fin 2 → ℕ) a ≤ S2048x256.size a) :
    KB x2 x3 p ((View.whole cc0_scratch0).readCov (Val := Elt Ideal)
      [⟨Rect.unit (s := S2048x256) ![0, 128] ![2048, 128] inb_S2048x256_S2048x128_0_128, k0_pay2 (F := Ideal) x3⟩,
        ⟨Rect.unit (s := S2048x256) ![0, 0] ![2048, 128] inb_S2048x256_S2048x128_0_0, k0_pay1 (F := Ideal) x2⟩]
      (Rect.unit (s := S2048x256) off ![512, 256] inb).toLoadRect) := by
  subst hoff
  intro k h d
  unfold View.readCov
  rw [View.readAt_apply, View.readAt_apply, idx_at p inb k h, idx_at p inb k h]
  exact ⟨(joined_left _ _ _ _ _ _).trans (pay1_apply x2 _ d), (joined_right _ _ _ _ _ _).trans (pay2_apply x3 _ d)⟩

/-- A chunk of rows loaded from a block. -/
theorem ld_read (x : FVec Ideal S2048x128 .bf16) (off : Fin 2 → ℕ) (p : ℕ) (hoff : off = ![p, 0]) (inb : ∀ a, off a + (![512, 128] : Fin 2 → ℕ) a ≤ S2048x128.size a) :
    RB x p (View.ld (Val := Elt Ideal) (e' := .bf16) x (Rect.unit (s := S2048x128) off ![512, 128] inb)) := by
  subst hoff
  intro k h d
  refine congrArg x (funext fun a => Fin.ext ?_)
  match a with
  | ⟨0, _⟩ => show p + 1 * k.val = p + k.val; omega
  | ⟨1, _⟩ => show 0 + 1 * d.val = d.val; omega

/-- What one trip of the loop stores: the state's next maximum, denominator and weighted sum. -/
theorem trip_t1 (𝒱 : Variants) (c : Dev nD) (bd : Option 𝒱.V) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x256 .bf16) (harg9 : arg9.IsWhole) (arg10 : Memref sig .tc .vmem S512x1 .f32) (harg10 : arg10.IsWhole) (arg11 : Memref sig .tc .vmem S512x1 .f32) (harg11 : arg11.IsWhole) (arg12 : Memref sig .tc .vmem S512x128 .f32) (harg12 : arg12.IsWhole) (v11 : IVec S512x512 1) (v166 : FVec Ideal S512x128 .bf16) (v168 : Vec Ideal S512x128 .bf16) (v169 : Vec Ideal S512x128 .bf16) (X_arg6 : BufTy.Contents (Elt Ideal) arg6.view.ty) (X_arg9 : BufTy.Contents (Elt Ideal) arg9.view.ty) (k : Fin k0_t1_loop.trips) (f_arg10 : BufTy.Contents (Elt Ideal) arg10.view.ty) (f_arg11 : BufTy.Contents (Elt Ideal) arg11.view.ty) (f_arg12 : BufTy.Contents (Elt Ideal) arg12.view.ty) :
    tripL_k0_t1 (F := Ideal) 𝒱 c bd i arg2 harg2 arg3 harg3 arg4 harg4 arg5 harg5 arg6 harg6 arg7 harg7 arg8 harg8 arg9 harg9 arg10 harg10 arg11 harg11 arg12 harg12 v11 v166 v168 v169 X_arg6 X_arg9 k f_arg10 f_arg11 f_arg12
      = ([⟨(Rect.unit (s := S512x1) ![0, 0] ![512, 1] inb_S512x1_S512x1_0_0), k0_pay46 v168 v169 (arg9.view.readAt (Elt Ideal) (Rect.unit (s := S2048x256) (k0_off3 k) ![512, 256] (k0_off3_inb k)).toLoadRect X_arg9) (arg10.view.readAt (Elt Ideal) (Rect.unit (s := S512x1) ![0, 0] ![512, 1] inb_S512x1_S512x1_0_0).toLoadRect f_arg10)⟩],
         [⟨(Rect.unit (s := S512x1) ![0, 0] ![512, 1] inb_S512x1_S512x1_0_0), k0_pay44 v168 v169 (arg9.view.readAt (Elt Ideal) (Rect.unit (s := S2048x256) (k0_off3 k) ![512, 256] (k0_off3_inb k)).toLoadRect X_arg9) (arg10.view.readAt (Elt Ideal) (Rect.unit (s := S512x1) ![0, 0] ![512, 1] inb_S512x1_S512x1_0_0).toLoadRect f_arg10) (arg11.view.readAt (Elt Ideal) (Rect.unit (s := S512x1) ![0, 0] ![512, 1] inb_S512x1_S512x1_0_0).toLoadRect f_arg11)⟩],
         [⟨(Rect.unit (s := S512x128) ![0, 0] ![512, 128] inb_S512x128_S512x128_0_0), k0_pay45 v168 v169 (arg9.view.readAt (Elt Ideal) (Rect.unit (s := S2048x256) (k0_off3 k) ![512, 256] (k0_off3_inb k)).toLoadRect X_arg9) (arg10.view.readAt (Elt Ideal) (Rect.unit (s := S512x1) ![0, 0] ![512, 1] inb_S512x1_S512x1_0_0).toLoadRect f_arg10) (arg12.view.readAt (Elt Ideal) (Rect.unit (s := S512x128) ![0, 0] ![512, 128] inb_S512x128_S512x128_0_0).toLoadRect f_arg12) (arg6.view.readAt (Elt Ideal) (Rect.unit (s := S2048x128) (k0_off4 k) ![512, 128] (k0_off4_inb k)).toLoadRect X_arg6)⟩]) := by
  unfold tripL_k0_t1 trip_k0_t1
  rfl

/-- THE LOOP, in its own words: the state read back after `n` trips is the state after `512 * n` keys. -/
theorem rep_t1 (𝒱 : Variants) (c : Dev nD) (bd : Option 𝒱.V) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x256 .bf16) (harg9 : arg9.IsWhole) (arg10 : Memref sig .tc .vmem S512x1 .f32) (harg10 : arg10.IsWhole) (arg11 : Memref sig .tc .vmem S512x1 .f32) (harg11 : arg11.IsWhole) (arg12 : Memref sig .tc .vmem S512x128 .f32) (harg12 : arg12.IsWhole) (v11 : IVec S512x512 1) (v166 : FVec Ideal S512x128 .bf16) (v168 : Vec Ideal S512x128 .bf16) (v169 : Vec Ideal S512x128 .bf16) (X_arg6 : BufTy.Contents (Elt Ideal) arg6.view.ty) (X_arg9 : BufTy.Contents (Elt Ideal) arg9.view.ty) (G_arg10 : BufTy.Contents (Elt Ideal) arg10.view.ty) (G_arg11 : BufTy.Contents (Elt Ideal) arg11.view.ty) (G_arg12 : BufTy.Contents (Elt Ideal) arg12.view.ty) (s : Fin 512 → ℕ → EReal) (vv : Fin 128 → ℕ → EReal) (hs : ∀ r k, s r k ≠ ⊤)
    (hS : ∀ (k : Fin k0_t1_loop.trips) (r i : Fin 512), sU v168 v169 (arg9.view.readAt (Elt Ideal) (Rect.unit (s := S2048x256) (k0_off3 k) ![512, 256] (k0_off3_inb k)).toLoadRect X_arg9) (ix2 r i) = s r (512 * k.val + i.val))
    (hV : ∀ (k : Fin k0_t1_loop.trips) (i : Fin 512) (j : Fin 128), (arg6.view.readAt (Elt Ideal) (Rect.unit (s := S2048x128) (k0_off4 k) ![512, 128] (k0_off4_inb k)).toLoadRect X_arg6) (ix2 i j) = vv j (512 * k.val + i.val))
    (h0 : Rep s vv 0 (arg10.view.readAt (Elt Ideal) (Rect.unit (s := S512x1) ![0, 0] ![512, 1] inb_S512x1_S512x1_0_0).toLoadRect G_arg10) (arg11.view.readAt (Elt Ideal) (Rect.unit (s := S512x1) ![0, 0] ![512, 1] inb_S512x1_S512x1_0_0).toLoadRect G_arg11) (arg12.view.readAt (Elt Ideal) (Rect.unit (s := S512x128) ![0, 0] ![512, 128] inb_S512x128_S512x128_0_0).toLoadRect G_arg12)) :
    ∀ n, n ≤ k0_t1_loop.trips → Rep s vv (512 * n)
      (arg10.view.readAt (Elt Ideal) (Rect.unit (s := S512x1) ![0, 0] ![512, 1] inb_S512x1_S512x1_0_0).toLoadRect (arg10.view.writes (Elt Ideal) G_arg10 (pb_k0_t1 (F := Ideal) 𝒱 c bd i arg2 harg2 arg3 harg3 arg4 harg4 arg5 harg5 arg6 harg6 arg7 harg7 arg8 harg8 arg9 harg9 arg10 harg10 arg11 harg11 arg12 harg12 v11 v166 v168 v169 X_arg6 X_arg9 G_arg10 G_arg11 G_arg12 n).1))
      (arg11.view.readAt (Elt Ideal) (Rect.unit (s := S512x1) ![0, 0] ![512, 1] inb_S512x1_S512x1_0_0).toLoadRect (arg11.view.writes (Elt Ideal) G_arg11 (pb_k0_t1 (F := Ideal) 𝒱 c bd i arg2 harg2 arg3 harg3 arg4 harg4 arg5 harg5 arg6 harg6 arg7 harg7 arg8 harg8 arg9 harg9 arg10 harg10 arg11 harg11 arg12 harg12 v11 v166 v168 v169 X_arg6 X_arg9 G_arg10 G_arg11 G_arg12 n).2.1))
      (arg12.view.readAt (Elt Ideal) (Rect.unit (s := S512x128) ![0, 0] ![512, 128] inb_S512x128_S512x128_0_0).toLoadRect (arg12.view.writes (Elt Ideal) G_arg12 (pb_k0_t1 (F := Ideal) 𝒱 c bd i arg2 harg2 arg3 harg3 arg4 harg4 arg5 harg5 arg6 harg6 arg7 harg7 arg8 harg8 arg9 harg9 arg10 harg10 arg11 harg11 arg12 harg12 v11 v166 v168 v169 X_arg6 X_arg9 G_arg10 G_arg11 G_arg12 n).2.2)) := by
  intro n
  induction n with
  | zero => intro _; exact h0
  | succ n ih =>
    intro hn
    have hr := ih (by omega)
    rw [pb_k0_t1_succ (F := Ideal) 𝒱 c bd i arg2 harg2 arg3 harg3 arg4 harg4 arg5 harg5 arg6 harg6 arg7 harg7 arg8 harg8 arg9 harg9 arg10 harg10 arg11 harg11 arg12 harg12 v11 v166 v168 v169 X_arg6 X_arg9 G_arg10 G_arg11 G_arg12 ⟨n, hn⟩, trip_t1]
    exact Rep.congr (View.readAt_writes_full _ _ _ _ _ _) (View.readAt_writes_full _ _ _ _ _ _) (View.readAt_writes_full _ _ _ _ _ _)
      (Rep.step _ _ hs (hS ⟨n, hn⟩) (hV ⟨n, hn⟩) hr).stored

/-- What one trip of the loop stores: the state's next maximum, denominator and weighted sum. -/
theorem trip_t2 (𝒱 : Variants) (c : Dev nD) (bd : Option 𝒱.V) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x256 .bf16) (harg9 : arg9.IsWhole) (arg10 : Memref sig .tc .vmem S512x1 .f32) (harg10 : arg10.IsWhole) (arg11 : Memref sig .tc .vmem S512x1 .f32) (harg11 : arg11.IsWhole) (arg12 : Memref sig .tc .vmem S512x128 .f32) (harg12 : arg12.IsWhole) (v11 : IVec S512x512 1) (v229 : Vec Ideal S512x128 .bf16) (v230 : Vec Ideal S512x128 .bf16) (X_arg6 : BufTy.Contents (Elt Ideal) arg6.view.ty) (X_arg9 : BufTy.Contents (Elt Ideal) arg9.view.ty) (k : Fin k0_t2_loop.trips) (f_arg10 : BufTy.Contents (Elt Ideal) arg10.view.ty) (f_arg11 : BufTy.Contents (Elt Ideal) arg11.view.ty) (f_arg12 : BufTy.Contents (Elt Ideal) arg12.view.ty) :
    tripL_k0_t2 (F := Ideal) 𝒱 c bd i arg2 harg2 arg3 harg3 arg4 harg4 arg5 harg5 arg6 harg6 arg7 harg7 arg8 harg8 arg9 harg9 arg10 harg10 arg11 harg11 arg12 harg12 v11 v229 v230 X_arg6 X_arg9 k f_arg10 f_arg11 f_arg12
      = ([⟨(Rect.unit (s := S512x1) ![0, 0] ![512, 1] inb_S512x1_S512x1_0_0), k0_pay66 v229 v230 (arg9.view.readAt (Elt Ideal) (Rect.unit (s := S2048x256) (k0_off5 k) ![512, 256] (k0_off5_inb k)).toLoadRect X_arg9) (arg10.view.readAt (Elt Ideal) (Rect.unit (s := S512x1) ![0, 0] ![512, 1] inb_S512x1_S512x1_0_0).toLoadRect f_arg10)⟩],
         [⟨(Rect.unit (s := S512x1) ![0, 0] ![512, 1] inb_S512x1_S512x1_0_0), k0_pay64 v229 v230 (arg9.view.readAt (Elt Ideal) (Rect.unit (s := S2048x256) (k0_off5 k) ![512, 256] (k0_off5_inb k)).toLoadRect X_arg9) (arg10.view.readAt (Elt Ideal) (Rect.unit (s := S512x1) ![0, 0] ![512, 1] inb_S512x1_S512x1_0_0).toLoadRect f_arg10) (arg11.view.readAt (Elt Ideal) (Rect.unit (s := S512x1) ![0, 0] ![512, 1] inb_S512x1_S512x1_0_0).toLoadRect f_arg11)⟩],
         [⟨(Rect.unit (s := S512x128) ![0, 0] ![512, 128] inb_S512x128_S512x128_0_0), k0_pay65 v229 v230 (arg9.view.readAt (Elt Ideal) (Rect.unit (s := S2048x256) (k0_off5 k) ![512, 256] (k0_off5_inb k)).toLoadRect X_arg9) (arg10.view.readAt (Elt Ideal) (Rect.unit (s := S512x1) ![0, 0] ![512, 1] inb_S512x1_S512x1_0_0).toLoadRect f_arg10) (arg12.view.readAt (Elt Ideal) (Rect.unit (s := S512x128) ![0, 0] ![512, 128] inb_S512x128_S512x128_0_0).toLoadRect f_arg12) (arg6.view.readAt (Elt Ideal) (Rect.unit (s := S2048x128) (k0_off6 k) ![512, 128] (k0_off6_inb k)).toLoadRect X_arg6)⟩]) := by
  unfold tripL_k0_t2 trip_k0_t2
  rfl

/-- THE LOOP, in its own words: the state read back after `n` trips is the state after `512 * n` keys. -/
theorem rep_t2 (𝒱 : Variants) (c : Dev nD) (bd : Option 𝒱.V) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x256 .bf16) (harg9 : arg9.IsWhole) (arg10 : Memref sig .tc .vmem S512x1 .f32) (harg10 : arg10.IsWhole) (arg11 : Memref sig .tc .vmem S512x1 .f32) (harg11 : arg11.IsWhole) (arg12 : Memref sig .tc .vmem S512x128 .f32) (harg12 : arg12.IsWhole) (v11 : IVec S512x512 1) (v229 : Vec Ideal S512x128 .bf16) (v230 : Vec Ideal S512x128 .bf16) (X_arg6 : BufTy.Contents (Elt Ideal) arg6.view.ty) (X_arg9 : BufTy.Contents (Elt Ideal) arg9.view.ty) (G_arg10 : BufTy.Contents (Elt Ideal) arg10.view.ty) (G_arg11 : BufTy.Contents (Elt Ideal) arg11.view.ty) (G_arg12 : BufTy.Contents (Elt Ideal) arg12.view.ty) (s : Fin 512 → ℕ → EReal) (vv : Fin 128 → ℕ → EReal) (hs : ∀ r k, s r k ≠ ⊤)
    (hS : ∀ (k : Fin k0_t2_loop.trips) (r i : Fin 512), sU v229 v230 (arg9.view.readAt (Elt Ideal) (Rect.unit (s := S2048x256) (k0_off5 k) ![512, 256] (k0_off5_inb k)).toLoadRect X_arg9) (ix2 r i) = s r (512 * k.val + i.val))
    (hV : ∀ (k : Fin k0_t2_loop.trips) (i : Fin 512) (j : Fin 128), (arg6.view.readAt (Elt Ideal) (Rect.unit (s := S2048x128) (k0_off6 k) ![512, 128] (k0_off6_inb k)).toLoadRect X_arg6) (ix2 i j) = vv j (512 * k.val + i.val))
    (h0 : Rep s vv 0 (arg10.view.readAt (Elt Ideal) (Rect.unit (s := S512x1) ![0, 0] ![512, 1] inb_S512x1_S512x1_0_0).toLoadRect G_arg10) (arg11.view.readAt (Elt Ideal) (Rect.unit (s := S512x1) ![0, 0] ![512, 1] inb_S512x1_S512x1_0_0).toLoadRect G_arg11) (arg12.view.readAt (Elt Ideal) (Rect.unit (s := S512x128) ![0, 0] ![512, 128] inb_S512x128_S512x128_0_0).toLoadRect G_arg12)) :
    ∀ n, n ≤ k0_t2_loop.trips → Rep s vv (512 * n)
      (arg10.view.readAt (Elt Ideal) (Rect.unit (s := S512x1) ![0, 0] ![512, 1] inb_S512x1_S512x1_0_0).toLoadRect (arg10.view.writes (Elt Ideal) G_arg10 (pb_k0_t2 (F := Ideal) 𝒱 c bd i arg2 harg2 arg3 harg3 arg4 harg4 arg5 harg5 arg6 harg6 arg7 harg7 arg8 harg8 arg9 harg9 arg10 harg10 arg11 harg11 arg12 harg12 v11 v229 v230 X_arg6 X_arg9 G_arg10 G_arg11 G_arg12 n).1))
      (arg11.view.readAt (Elt Ideal) (Rect.unit (s := S512x1) ![0, 0] ![512, 1] inb_S512x1_S512x1_0_0).toLoadRect (arg11.view.writes (Elt Ideal) G_arg11 (pb_k0_t2 (F := Ideal) 𝒱 c bd i arg2 harg2 arg3 harg3 arg4 harg4 arg5 harg5 arg6 harg6 arg7 harg7 arg8 harg8 arg9 harg9 arg10 harg10 arg11 harg11 arg12 harg12 v11 v229 v230 X_arg6 X_arg9 G_arg10 G_arg11 G_arg12 n).2.1))
      (arg12.view.readAt (Elt Ideal) (Rect.unit (s := S512x128) ![0, 0] ![512, 128] inb_S512x128_S512x128_0_0).toLoadRect (arg12.view.writes (Elt Ideal) G_arg12 (pb_k0_t2 (F := Ideal) 𝒱 c bd i arg2 harg2 arg3 harg3 arg4 harg4 arg5 harg5 arg6 harg6 arg7 harg7 arg8 harg8 arg9 harg9 arg10 harg10 arg11 harg11 arg12 harg12 v11 v229 v230 X_arg6 X_arg9 G_arg10 G_arg11 G_arg12 n).2.2)) := by
  intro n
  induction n with
  | zero => intro _; exact h0
  | succ n ih =>
    intro hn
    have hr := ih (by omega)
    rw [pb_k0_t2_succ (F := Ideal) 𝒱 c bd i arg2 harg2 arg3 harg3 arg4 harg4 arg5 harg5 arg6 harg6 arg7 harg7 arg8 harg8 arg9 harg9 arg10 harg10 arg11 harg11 arg12 harg12 v11 v229 v230 X_arg6 X_arg9 G_arg10 G_arg11 G_arg12 ⟨n, hn⟩, trip_t2]
    exact Rep.congr (View.readAt_writes_full _ _ _ _ _ _) (View.readAt_writes_full _ _ _ _ _ _) (View.readAt_writes_full _ _ _ _ _ _)
      (Rep.step _ _ hs (hS ⟨n, hn⟩) (hV ⟨n, hn⟩) hr).stored

end Cert.FlashBlock

end
-- ==== Proof.FlashPoint.lean ====
/- The attention kernel's block at a grid point: every entry is the softmax of its query's scores over the keys up to it, applied
   to the values and gated. -/
module

public import proofs.«01_k».proof.Proof.Gen.FlashIdeal.Value
public import proofs.«01_k».proof.Proof.FlashLoop
public import Idealize.ShloMosaic.Lib.VecWindow
public import Idealize.ShloMosaic.Lib.WholeRead
public import Idealize.ShloMosaic.Lib.Claim
public import Idealize.ShloMosaic.Lib.Pointwise
public import Idealize.ShloMosaic.Lib.Pipeline.ValueKit

@[expose] public section

set_option maxRecDepth 16384

noncomputable section

namespace Cert.FlashBlock

open Cert.FlashIdeal Cert.FlashIdeal.Gen Idealize.ShloMosaic Idealize.ShloMosaic.TcCoe Idealize.SL.Sem Cert.SoftmaxMath

/-- An entry of the block: query `q`, value lane `j`. -/
def OUT (x0 x1 x2 x3 x4 x5 : FVec Ideal S2048x128 .bf16) (q : Fin 2048) (j : Fin 128) : EReal :=
  SoftmaxMath.num (sN x0 x1 x2 x3 q) (vN x4 j) 2048 * Ideal.div 1 (SoftmaxMath.den (sN x0 x1 x2 x3 q) 2048) * x5 (ix2 q j)

/-- Keys after the chunk of queries are masked, so the state after the diagonal block is the state after all keys. -/
theorem out_of (x0 x1 x2 x3 x4 x5 : FVec Ideal S2048x128 .bf16) {o n : ℕ} (ho : o + 512 ≤ 2048) (hn : n = o + 512) (r : Fin 512) (j : Fin 128)
    {g : FVec Ideal S512x128 .bf16} (hg : RB x5 o g) :
    SoftmaxMath.num (sN x0 x1 x2 x3 (row o ho r)) (vN x4 j) n * Ideal.div 1 (SoftmaxMath.den (sN x0 x1 x2 x3 (row o ho r)) n) * g (ix2 r j)
      = OUT x0 x1 x2 x3 x4 x5 (row o ho r) j := by
  subst hn
  have hb : ∀ k, o + 512 ≤ k → sN x0 x1 x2 x3 (row o ho r) k = ⊥ := fun k hk => dif_neg (by show ¬ k ≤ o + r.val; omega)
  rw [OUT, num_pad _ ho hb, den_pad ho hb, hg r (by omega)]

/-- The state, at an equal count of keys. -/
theorem Rep.at {s : Fin 512 → ℕ → EReal} {v : Fin 128 → ℕ → EReal} {n n' : ℕ} {M L : FVec Ideal S512x1 .f32} {A : FVec Ideal S512x128 .f32}
    (hn : n = n') (h : Rep s v n M L A) : Rep s v n' M L A := hn ▸ h

/-- Stores after earlier stores, read back: the later ones over the earlier. -/
theorem readCov_append {κ : Kind} {sp : Space} {e : EltTy} {S : Shape} (v : View sig κ sp S e) (L L' : List (View.Piece (Elt Ideal) S e)) (B : LoadRect S) :
    v.readCov (L ++ L') B = v.readAt (Elt Ideal) B (v.writes (Elt Ideal) (v.writes (Elt Ideal) v.junk L') L) := by
  show v.readAt (Elt Ideal) B (v.writes (Elt Ideal) v.junk (L ++ L')) = _
  rw [View.writes_append]

/-- A chunk of rows loaded from a whole block. -/
theorem unread_read {mr : Memref sig .tc .vmem S2048x128 .bf16} (hm : mr.IsWhole) (x : FVec Ideal S2048x128 .bf16) (off : Fin 2 → ℕ) (p : ℕ) (hoff : off = ![p, 0])
    (inb : ∀ a, off a + (![512, 128] : Fin 2 → ℕ) a ≤ S2048x128.size a) :
    RB x p (mr.view.readAt (Elt Ideal) (Rect.unit (s := S2048x128) off ![512, 128] inb).toLoadRect (hm.unread x)) := by
  subst hoff
  intro k h d
  refine (Memref.IsWhole.readAt_unread (Val := Elt Ideal) (e := .bf16) hm x _ _).trans (congrArg x (funext fun a => Fin.ext ?_))
  match a with
  | ⟨0, _⟩ => show p + 1 * k.val = p + k.val; omega
  | ⟨1, _⟩ => show 0 + 1 * d.val = d.val; omega

/-- The number of trips of the third block of queries. -/
theorem trips1 : k0_t1_loop.trips = 2 := by decide
/-- The number of trips of the fourth block of queries. -/
theorem trips2 : k0_t2_loop.trips = 3 := by decide

variable (m : (ℓ : Loc nD τ sig) → Buf (Elt Ideal) ℓ)

set_option maxHeartbeats 2000000 in
/-- THE BLOCK at grid point `t`, at every index. -/
theorem block (c : Dev nD) (t : Fin cfg0.N) (hs : ∀ q k, sN (iblk m c 0 t) (iblk m c 1 t) (iblk m c 2 t) (iblk m c 3 t) q k ≠ ⊤) (y : S2048x128.Idx) :
    outsAt0 m c t y = OUT (iblk m c 0 t) (iblk m c 1 t) (iblk m c 2 t) (iblk m c 3 t) (iblk m c 4 t) (iblk m c 5 t) (y 0) (y 1) := by
  revert hs
  unfold outsAt0
  generalize iblk m c 0 t = x0
  generalize iblk m c 1 t = x1
  generalize iblk m c 2 t = x2
  generalize iblk m c 3 t = x3
  generalize iblk m c 4 t = x4
  generalize iblk m c 5 t = x5
  intro hs
  frame_out
  canon_tiles x h
  · rw [show y 0 = row 1536 (by omega) (x 0) from Fin.ext h0, show y 1 = x 1 from Fin.ext h1]
    refine (congrArg _ (eq_ix2 x)).trans ?_
    refine (Rep.fin (s := fun r => sN x0 x1 x2 x3 (row 1536 (by omega) r)) (v := vN x4) (n := 1536 + 512) _ (Rep.step _ _ (fun r k => hs _ k) ?_ ?_
      (Rep.at (congrArg (512 * ·) trips2) (Rep.congr (readCov_append _ _ _ _) (readCov_append _ _ _ _) (readCov_append _ _ _ _)
        (rep_t2 Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _)
          _ _ _ _ _ _ _ _ _ _ (fun r k => hs _ k) ?_ ?_ (Rep.congr (View.readAt_writes_full _ _ _ _ _ _) (View.readAt_writes_full _ _ _ _ _ _) (View.readAt_writes_full _ _ _ _ _ _)
            (Rep.init _ _ pay57_apply pay58_apply pay59_apply)) k0_t2_loop.trips le_rfl)))) (x 0) (x 1)).trans (out_of x0 x1 x2 x3 x4 x5 (by omega) rfl _ _ (ld_read x5 _ 1536 rfl _))
    · exact fun r k => sM_rep (o := 1536) (by omega) (ld_read x0 _ 1536 rfl _) (ld_read x1 _ 1536 rfl _) (kcat_read x2 x3 _ 1536 rfl _) r k
    · exact fun k j => vN_rep (p := 1536) (by omega) (ld_read x4 _ 1536 rfl _) k j
    · intro k r i
      have hk := Nat.lt_of_lt_of_eq k.isLt trips2
      exact sU_rep (o := 1536) (p := 512 * k.val) (by omega) (by omega) (ld_read x0 _ 1536 rfl _) (ld_read x1 _ 1536 rfl _) (kcat_read x2 x3 _ _ (k0_off5_eq k) _) r i
    · intro k i j
      have hk := Nat.lt_of_lt_of_eq k.isLt trips2
      exact vN_rep (p := 512 * k.val) (by omega) (unread_read _ x4 _ _ (k0_off6_eq k) _) i j
  · rw [show y 0 = row 1024 (by omega) (x 0) from Fin.ext h0, show y 1 = x 1 from Fin.ext h1]
    refine (congrArg _ (eq_ix2 x)).trans ?_
    refine (Rep.fin (s := fun r => sN x0 x1 x2 x3 (row 1024 (by omega) r)) (v := vN x4) (n := 1024 + 512) _ (Rep.step _ _ (fun r k => hs _ k) ?_ ?_
      (Rep.at (congrArg (512 * ·) trips1) (Rep.congr (readCov_append _ _ _ _) (readCov_append _ _ _ _) (readCov_append _ _ _ _)
        (rep_t1 Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _)
          _ _ _ _ _ _ _ _ _ _ _ (fun r k => hs _ k) ?_ ?_ (Rep.congr (View.readAt_writes_full _ _ _ _ _ _) (View.readAt_writes_full _ _ _ _ _ _) (View.readAt_writes_full _ _ _ _ _ _)
            (Rep.init _ _ pay37_apply pay38_apply pay39_apply)) k0_t1_loop.trips le_rfl)))) (x 0) (x 1)).trans (out_of x0 x1 x2 x3 x4 x5 (by omega) rfl _ _ (ld_read x5 _ 1024 rfl _))
    · exact fun r k => sM_rep (o := 1024) (by omega) (ld_read x0 _ 1024 rfl _) (ld_read x1 _ 1024 rfl _) (kcat_read x2 x3 _ 1024 rfl _) r k
    · exact fun k j => vN_rep (p := 1024) (by omega) (ld_read x4 _ 1024 rfl _) k j
    · intro k r i
      have hk := Nat.lt_of_lt_of_eq k.isLt trips1
      exact sU_rep (o := 1024) (p := 512 * k.val) (by omega) (by omega) (ld_read x0 _ 1024 rfl _) (ld_read x1 _ 1024 rfl _) (kcat_read x2 x3 _ _ (k0_off3_eq k) _) r i
    · intro k i j
      have hk := Nat.lt_of_lt_of_eq k.isLt trips1
      exact vN_rep (p := 512 * k.val) (by omega) (unread_read _ x4 _ _ (k0_off4_eq k) _) i j
  · rw [show y 0 = row 512 (by omega) (x 0) from Fin.ext h0, show y 1 = x 1 from Fin.ext h1]
    refine (congrArg _ (eq_ix2 x)).trans ?_
    refine (Rep.fin (s := fun r => sN x0 x1 x2 x3 (row 512 (by omega) r)) (v := vN x4) (n := 0 + 512 + 512) _ (Rep.step _ _ (fun r k => hs _ k) ?_ ?_
      (Rep.step (n := 0) _ _ (fun r k => hs _ k) ?_ ?_ (Rep.init _ _ pay17_apply pay18_apply pay19_apply)).stored) (x 0) (x 1)).trans (out_of x0 x1 x2 x3 x4 x5 (by omega) rfl _ _ (ld_read x5 _ 512 rfl _))
    · exact fun r k => sM_rep (o := 512) (by omega) (ld_read x0 _ 512 rfl _) (ld_read x1 _ 512 rfl _) (kcat_read x2 x3 _ 512 rfl _) r k
    · exact fun k j => vN_rep (p := 512) (by omega) (ld_read x4 _ 512 rfl _) k j
    · exact fun r k => sU_rep (o := 512) (p := 0) (by omega) (by omega) (ld_read x0 _ 512 rfl _) (ld_read x1 _ 512 rfl _) (kcat_read x2 x3 _ 0 k0_off1_eq _) r k
    · exact fun k j => vN_rep (p := 0) (by omega) (ld_read x4 _ 0 k0_off2_eq _) k j
  · rw [show y 0 = row 0 (by omega) (x 0) from Fin.ext (by rw [h0]; exact (Nat.zero_add _).symm), show y 1 = x 1 from Fin.ext h1]
    refine (congrArg _ (eq_ix2 x)).trans ?_
    refine (Rep.fin (s := fun r => sN x0 x1 x2 x3 (row 0 (by omega) r)) (v := vN x4) (n := 0 + 512) _ (Rep.step (n := 0) _ _ (fun r k => hs _ k) ?_ ?_
      (Rep.init _ _ pay4_apply pay5_apply pay6_apply)) (x 0) (x 1)).trans (out_of x0 x1 x2 x3 x4 x5 (by omega) rfl _ _ (ld_read x5 _ 0 rfl _))
    · exact fun r k => sM_rep (o := 0) (by omega) (ld_read x0 _ 0 rfl _) (ld_read x1 _ 0 rfl _) (kcat_read x2 x3 _ 0 rfl _) r k
    · exact fun k j => vN_rep (p := 0) (by omega) (ld_read x4 _ 0 rfl _) k j

end Cert.FlashBlock

end
-- ==== Proof.FlashRef.lean ====
/- The reference attention, in the words of the softmax: a query's scores by the key's number, their maximum, the sum of the
   exponentials, and the values averaged. -/
module

public import proofs.«01_k».proof.Proof.SoftmaxMath
public import proofs.«01_k».proof.Proof.Gen.AttnIdeal.Read
public import Idealize.ShloMosaic.Lib.Claim
public import Idealize.ShloMosaic.Lib.Pointwise
public import Idealize.ShloMosaic.Lib.WordCmp

@[expose] public section

set_option maxRecDepth 16384

noncomputable section

namespace Cert.FlashRef

open Cert.AttnIdeal Cert.AttnIdeal.Read Idealize.ShloMosaic Idealize.ShloMosaic.TcCoe Idealize.SL.Sem Cert.SoftmaxMath

/-- Row `q` of sequence `b`. -/
abbrev rw8 (b : Fin 4) (q : Fin 2048) : Fin 8192 := ⟨b.val * 2048 + q.val, by omega⟩
/-- Lane `j` of head `h`, of 128 lanes. -/
abbrev cl (h : Fin 16) (j : Fin 128) : Fin 2048 := ⟨h.val * 128 + j.val, by omega⟩
/-- Lane `d` of head `h`'s rotary part, of 64 lanes. -/
abbrev clr (h : Fin 16) (d : Fin 64) : Fin 1024 := ⟨h.val * 64 + d.val, by omega⟩

variable (x0 : FVec Ideal S8192x2048 .bf16) (x1 : FVec Ideal S8192x1024 .bf16) (x2 : FVec Ideal S8192x2048 .bf16) (x3 : FVec Ideal S8192x64 .bf16) (x4 x5 : FVec Ideal S8192x2048 .bf16)

/-- The score of a query and a key. -/
def sc (b : Fin 4) (h : Fin 16) (q k : Fin 2048) : EReal :=
  (∑ d : Fin 128, x0 (ix2 (rw8 b q) (cl h d)) * x2 (ix2 (rw8 b k) (cl h d))) + ∑ d : Fin 64, x3 (ix2 (rw8 b k) d) * x1 (ix2 (rw8 b q) (clr h d))

/-- The scores of a query by the key's number: −∞ after the query. -/
def sN (b : Fin 4) (h : Fin 16) (q : Fin 2048) (k : ℕ) : EReal :=
  if hk : k ≤ q.val then sc x0 x1 x2 x3 b h q ⟨k, lt_of_le_of_lt hk q.isLt⟩ else ⊥

/-- Equal coordinates make equal indices of three axes. -/
theorem ix3_congr {A B C : ℕ} {a a' : Fin A} {b b' : Fin B} {c c' : Fin C} (ha : a = a') (hb : b = b') (hc : c = c') : ix3 a b c = ix3 a' b' c' := by
  subst ha hb hc; rfl
/-- Equal coordinates make equal indices of four axes. -/
theorem ix4_congr {A B C D : ℕ} {a a' : Fin A} {b b' : Fin B} {c c' : Fin C} {d d' : Fin D} (ha : a = a') (hb : b = b') (hc : c = c') (hd : d = d') :
    ix4 a b c d = ix4 a' b' c' d' := by
  subst ha hb hc hd; rfl

/-- The word of −∞. -/
theorem bits_bot : Ideal.ofBits .f32 0xFF800000#32 = (⊥ : EReal) := rfl

/-- The scores before the mask. -/
theorem v13_at (b : Fin 4) (h : Fin 16) (q k : Fin 2048) : val_main_v13 (F := Ideal) x0 x1 x2 x3 (ix4 b h q k) = sc x0 x1 x2 x3 b h q k := by
  unfold sc
  pointwise [val_main_v0, val_main_v1, val_main_v2, val_main_v3, val_main_v4, val_main_v5, val_main_v6, val_main_v7, val_main_v10, val_main_v11, val_main_v12, val_main_v13]
  try rfl

/-- The masked scores. -/
theorem v20_at (b : Fin 4) (h : Fin 16) (q k : Fin 2048) : val_main_v20 (F := Ideal) x0 x1 x2 x3 (ix4 b h q k) = sN x0 x1 x2 x3 b h q k.val := by
  have e := v13_at x0 x1 x2 x3 b h q k
  unfold sN
  rw [val_main_v20_apply, e]
  pointwise [val_main_v14, val_main_v15, val_main_v16, val_main_v17, val_main_v18, val_main_v19, val_main_cst, val_main_call0_v0, val_main_call0_v1, val_main_call0_v2]
  rw [show ((id (constant S_ .f32 4286578688#32) : FVec Ideal S_ .f32) ix0 : Ideal .f32) = ⊥ from rfl]
  generalize sc x0 x1 x2 x3 b h q = s
  by_cases hk : k.val ≤ q.val
  · rw [dif_pos hk]
    have : (if k.val ≤ q.val then s k else ⊥) = s k := if_pos hk
    rw [← this]
    word_cmp
    rw [if_pos hk]
  · rw [dif_neg hk]
    have : (if k.val ≤ q.val then s k else ⊥) = ⊥ := if_neg hk
    rw [← this]
    word_cmp
    rw [if_neg hk]

/-- The maximum of the scores. -/
theorem v21_at (b : Fin 4) (h : Fin 16) (q : Fin 2048) : val_main_v21 (F := Ideal) x0 x1 x2 x3 (ix3 b h q) = mx (sN x0 x1 x2 x3 b h q) 2048 := by
  have e := v20_at x0 x1 x2 x3 b h q
  unfold val_main_v21
  generalize val_main_v20 (F := Ideal) x0 x1 x2 x3 = V at e
  pointwise [val_main_cst_0]
  rw [bits_bot, funext e]
  exact fold_mx _ 2048

/-- The sum of the exponentials. -/
theorem v27_at (b : Fin 4) (h : Fin 16) (q k : Fin 2048) : val_main_v27 (F := Ideal) x0 x1 x2 x3 (ix4 b h q k)
    = Ideal.exp (sN x0 x1 x2 x3 b h q k.val - mx (sN x0 x1 x2 x3 b h q) 2048) := by
  have e := v20_at x0 x1 x2 x3 b h q k
  have e' := v21_at x0 x1 x2 x3 b h q
  have i3 : idx_main_v24 (idx_main_v25 (ix4 b h q k)) = ix3 b h q := funext fun a => match a with
    | ⟨0, _⟩ => rfl
    | ⟨1, _⟩ => rfl
    | ⟨2, _⟩ => rfl
  rw [val_main_v27_apply, val_main_v26_apply, val_main_v25_apply, val_main_v24_apply, val_main_v23_apply, val_main_v22_apply, val_main_cst_1_apply, i3, e, e']
  generalize sN x0 x1 x2 x3 b h q k.val = a
  generalize mx (sN x0 x1 x2 x3 b h q) 2048 = M
  show Ideal.exp (a - max (Ideal.ofBits .f32 0xFF800000#32) M) = Ideal.exp (a - M)
  rw [bits_bot, max_eq_right bot_le]

/-- The reference's softmax denominator at a head and a query. -/
theorem v28_at (b : Fin 4) (h : Fin 16) (q : Fin 2048) : val_main_v28 (F := Ideal) x0 x1 x2 x3 (ix3 b h q) = den (sN x0 x1 x2 x3 b h q) 2048 := by
  have e := v27_at x0 x1 x2 x3 b h q
  unfold val_main_v28
  generalize val_main_v27 (F := Ideal) x0 x1 x2 x3 = V at e
  pointwise [val_main_cst_2]
  rw [← sum_den]
  exact Finset.sum_congr rfl fun k _ => e k

/-- THE RESULT, at every row and lane. -/
theorem v37_at (b : Fin 4) (h : Fin 16) (q : Fin 2048) (j : Fin 128) : val_main_v37 (F := Ideal) x0 x1 x2 x3 x4 x5 (ix2 (rw8 b q) (cl h j))
    = (∑ k : Fin 2048, x4 (ix2 (rw8 b k) (cl h j)) * Ideal.div (Ideal.exp (sN x0 x1 x2 x3 b h q k.val - mx (sN x0 x1 x2 x3 b h q) 2048)) (den (sN x0 x1 x2 x3 b h q) 2048))
      * x5 (ix2 (rw8 b q) (cl h j)) := by
  have e := v27_at x0 x1 x2 x3 b h q
  have e' := v28_at x0 x1 x2 x3 b h q
  unfold val_main_v37 val_main_v36 val_main_v34 val_main_v33 val_main_v32 val_main_v31 val_main_v30 val_main_v29
  generalize val_main_v27 (F := Ideal) x0 x1 x2 x3 = E at e
  generalize val_main_v28 (F := Ideal) x0 x1 x2 x3 = D at e'
  pointwise [val_main_v8, val_main_v9, val_main_v35]
  refine congrArg (· * x5 (ix2 (rw8 b q) (cl h j))) (Finset.sum_congr rfl fun k _ => ?_)
  have f1 : (b.val * 2048 + q.val) / 2048 = b.val := by omega
  have f2 : (b.val * 2048 + q.val) % 2048 = q.val := by omega
  have f3 : (h.val * 128 + j.val) / 128 = h.val := by omega
  have f4 : (h.val * 128 + j.val) / 128 * 128 + (h.val * 128 + j.val) % 128 = h.val * 128 + j.val := by omega
  have f5 : (b.val * 2048 + q.val) / 2048 * 2048 + k.val = b.val * 2048 + k.val := by omega
  refine congrArg₂ (· * ·) (congrArg x4 ?_) (congrArg₂ Ideal.div ((congrArg E ?_).trans (e k)) ((congrArg D ?_).trans e'))
  · exact congrArg₂ ix2 (Fin.ext f5) (Fin.ext f4)
  · exact ix4_congr (Fin.ext f1) (Fin.ext f3) (Fin.ext f2) rfl
  · exact ix3_congr (Fin.ext f1) (Fin.ext f3) (Fin.ext f2)

end Cert.FlashRef

end
-- ==== Proof.FlashValue.lean ====
/- The attention kernel's result array is the reference's, for real queries and keys. -/
module

public import proofs.«01_k».proof.Proof.FlashPoint
public import proofs.«01_k».proof.Proof.FlashRef
public import proofs.«01_k».proof.Proof.Gen.FlashIdeal.Value
public import proofs.«01_k».proof.Pre_finite_scores
public import proofs.«01_k».proof.Proof.Gen.Pre_finite_scores
public import Idealize.ShloMosaic.Lib.Claim
public import Idealize.ShloMosaic.Lib.Pointwise
public import Idealize.ShloMosaic.Lib.Pipeline.ValueKit

@[expose] public section

set_option maxRecDepth 16384

noncomputable section

namespace Cert.FlashValue

open Cert.FlashIdeal Cert.FlashIdeal.Gen Idealize.ShloMosaic Idealize.ShloMosaic.TcCoe Idealize.SL.Sem Cert.SoftmaxMath
open Idealize.ShloMosaic.Pipeline (Dat)
open Cert.FlashRef (rw8 cl clr)

variable (m : (ℓ : Loc nD τ sig) → Buf (Elt Ideal) ℓ)

/-- The sequence a grid point works on. -/
def bb (t : Fin cfg0.N) : Fin 4 := ⟨t.val / 16, by have : t.val < 64 := t.isLt; omega⟩
/-- The head a grid point works on. -/
def hh (t : Fin cfg0.N) : Fin 16 := ⟨t.val % 16, Nat.mod_lt _ (by omega)⟩

/-- Where each window's block lies at a grid point. -/
theorem idx : ∀ t : Fin cfg0.N, win0_0.index t = ![(bb t).val, (hh t).val] ∧ win0_1.index t = ![(bb t).val, (hh t).val / 2] ∧ win0_2.index t = ![(bb t).val, (hh t).val]
    ∧ win0_3.index t = ![(bb t).val, (hh t).val % 2] ∧ win0_4.index t = ![(bb t).val, (hh t).val] ∧ win0_5.index t = ![(bb t).val, (hh t).val]
    ∧ win0_6.index t = ![(bb t).val, (hh t).val] :=
  (by decide +kernel : ∀ t : Fin grid0.N, _)

/-- The queries' position-free part, as given. -/
abbrev q0 (c : Dev nD) : FVec Ideal S8192x2048 .bf16 := m ((c : Thread nD τ).loc main_arg0)
/-- The queries' rotary part, as given. -/
abbrev q1 (c : Dev nD) : FVec Ideal S8192x1024 .bf16 := m ((c : Thread nD τ).loc main_arg1)
/-- The keys' position-free part, as given. -/
abbrev q2 (c : Dev nD) : FVec Ideal S8192x2048 .bf16 := m ((c : Thread nD τ).loc main_arg2)
/-- The keys' rotary part, as given. -/
abbrev q3 (c : Dev nD) : FVec Ideal S8192x64 .bf16 := m ((c : Thread nD τ).loc main_arg3)
/-- The values, as given. -/
abbrev q4 (c : Dev nD) : FVec Ideal S8192x2048 .bf16 := m ((c : Thread nD τ).loc main_arg4)
/-- The gate, as given. -/
abbrev q5 (c : Dev nD) : FVec Ideal S8192x2048 .bf16 := m ((c : Thread nD τ).loc main_arg5)

/-- The first block of a grid point: its sequence's and head's queries. -/
theorem blk0 (c : Dev nD) (t : Fin cfg0.N) (q : Fin 2048) (d : Fin 128) : iblk m c 0 t (ix2 q d) = q0 m c (ix2 (rw8 (bb t) q) (cl (hh t) d)) := by
  blk_point [iblk, V, idx t]
/-- The third block of a grid point: its sequence's and head's keys. -/
theorem blk2 (c : Dev nD) (t : Fin cfg0.N) (q : Fin 2048) (d : Fin 128) : iblk m c 2 t (ix2 q d) = q2 m c (ix2 (rw8 (bb t) q) (cl (hh t) d)) := by
  blk_point [iblk, V, idx t]
/-- The fifth block of a grid point: its sequence's and head's values. -/
theorem blk4 (c : Dev nD) (t : Fin cfg0.N) (q : Fin 2048) (d : Fin 128) : iblk m c 4 t (ix2 q d) = q4 m c (ix2 (rw8 (bb t) q) (cl (hh t) d)) := by
  blk_point [iblk, V, idx t]
/-- The sixth block of a grid point: its sequence's and head's gate. -/
theorem blk5 (c : Dev nD) (t : Fin cfg0.N) (q : Fin 2048) (d : Fin 128) : iblk m c 5 t (ix2 q d) = q5 m c (ix2 (rw8 (bb t) q) (cl (hh t) d)) := by
  blk_point [iblk, V, idx t]
/-- The second block of a grid point: the rotary queries of its head and of the neighbour it shares 128 lanes with. -/
theorem blk1 (c : Dev nD) (t : Fin cfg0.N) (q : Fin 2048) (d : Fin 128) : iblk m c 1 t (ix2 q d)
    = q1 m c (ix2 (rw8 (bb t) q) ⟨(hh t).val / 2 * 128 + d.val, by have := (hh t).isLt; omega⟩) := by
  blk_point [iblk, V, idx t]

/-- The lower lanes' mask. -/
def low : IVec S8192x128 1 := cmpi .slt (iotaInDim S8192x128 32 1) (broadcastInDim S8192x128 ![] bcast_S_S8192x128 (constantI S_ 32 64#32))
/-- The rotary part of the keys, twice. -/
def twice (X : FVec Ideal S8192x64 .bf16) : FVec Ideal S8192x128 .bf16 :=
  concatenate S8192x128 1 [⟨S8192x64, X⟩, ⟨S8192x64, X⟩] concatenates_S8192x64_S8192x64_S8192x128_d1
/-- Zeros. -/
def none8 : FVec Ideal S8192x128 .bf16 := broadcastInDim S8192x128 ![] bcast_S_S8192x128 (constant (F := Ideal) S_ .bf16 0#16)
/-- The rotary part of the keys as the host lays it out. -/
def lay (X : FVec Ideal S8192x64 .bf16) : FVec Ideal S8192x256 .bf16 :=
  concatenate S8192x256 1 [⟨S8192x128, select low (twice X) none8⟩, ⟨S8192x128, select low none8 (twice X)⟩] concatenates_S8192x128_S8192x128_S8192x256_d1

/-- The laid-out rotary keys by lane: the keys in the first and the last 64 lanes, zero between. -/
theorem lay_at (X : FVec Ideal S8192x64 .bf16) (r : Fin 8192) (l : Fin 256) : lay X (ix2 r l)
    = if h0 : l.val < 64 then X (ix2 r ⟨l.val, h0⟩) else if h1 : l.val < 192 then 0 else X (ix2 r ⟨l.val - 192, by omega⟩) := by
  pointwise [lay, low, twice, none8]
  split
  · word_cmp
    repeat' split
    all_goals first | rfl | omega
  · word_cmp
    repeat' split
    all_goals first | rfl | omega | exact congrArg X (congrArg (ix2 r) (Fin.ext (by show l.val - 128 - 64 = l.val - 192; omega)))

/-- The array the host prepares is the layout of the rotary keys. -/
theorem laid_out (c : Dev nD) : (V m c main_v7 : FVec Ideal S8192x256 .bf16) = lay (q3 m c) := by
  simp only [V, hostOps0, hostOps0_1, hostOps0_2, hostOps0_3, List.flatten_cons, List.flatten_nil, List.cons_append, List.nil_append, List.append_nil]
  entry_read
  rfl

/-- The fourth block of a grid point: the half of the laid-out rotary keys that the head's parity picks. -/
theorem blk3 (c : Dev nD) (t : Fin cfg0.N) (k : Fin 2048) (d : Fin 128) : iblk m c 3 t (ix2 k d)
    = (V m c main_v7 : FVec Ideal S8192x256 .bf16) (ix2 (rw8 (bb t) k) ⟨(hh t).val % 2 * 128 + d.val, by omega⟩) := by
  blk_point [iblk, idx t]

/-- A sum over 128 lanes, by halves. -/
theorem sum_halves (f : Fin 128 → EReal) : (∑ d, f d) = (∑ d : Fin 64, f ⟨d.val, by omega⟩) + ∑ d : Fin 64, f ⟨64 + d.val, by omega⟩ :=
  Fin.sum_univ_add (a := 64) (b := 64) f

/-- The kernel's rotary sum over 128 lanes is the sum over the head's own 64: the other half meets zeros. -/
theorem rot_eq (c : Dev nD) (t : Fin cfg0.N) (q k : Fin 2048) (A B : FVec Ideal S2048x128 .bf16)
    (hA : ∀ d : Fin 128, A (ix2 q d) = q1 m c (ix2 (rw8 (bb t) q) ⟨(hh t).val / 2 * 128 + d.val, by have := (hh t).isLt; omega⟩))
    (hB : ∀ d : Fin 128, B (ix2 k d) = lay (q3 m c) (ix2 (rw8 (bb t) k) ⟨(hh t).val % 2 * 128 + d.val, by omega⟩)) :
    (∑ d : Fin 128, A (ix2 q d) * B (ix2 k d))
      = ∑ d : Fin 64, q3 m c (ix2 (rw8 (bb t) k) d) * q1 m c (ix2 (rw8 (bb t) q) (clr (hh t) d)) := by
  have hlt := (hh t).isLt
  rw [sum_halves]
  simp only [hA, hB, lay_at]
  rcases Nat.mod_two_eq_zero_or_one (hh t).val with h0 | h0
  · refine (congrArg₂ (· + ·) (Finset.sum_congr rfl fun d _ => ?_) (Finset.sum_eq_zero fun d _ => ?_)).trans (add_zero _)
    · rw [dif_pos (by omega), mul_comm]
      exact congrArg₂ (· * ·) (congrArg (q3 m c) (congrArg (ix2 _) (Fin.ext (by show (hh t).val % 2 * 128 + d.val = d.val; omega))))
        (congrArg (q1 m c) (congrArg (ix2 _) (Fin.ext (by show (hh t).val / 2 * 128 + d.val = (hh t).val * 64 + d.val; omega))))
    · rw [dif_neg (by omega), dif_pos (by omega), mul_zero]
  · refine (congrArg₂ (· + ·) (Finset.sum_eq_zero fun d _ => ?_) (Finset.sum_congr rfl fun d _ => ?_)).trans (zero_add _)
    · rw [dif_neg (by omega), dif_pos (by omega), mul_zero]
    · rw [dif_neg (by omega), dif_neg (by omega), mul_comm]
      exact congrArg₂ (· * ·) (congrArg (q3 m c) (congrArg (ix2 _) (Fin.ext (by show (hh t).val % 2 * 128 + (64 + d.val) - 192 = d.val; omega))))
        (congrArg (q1 m c) (congrArg (ix2 _) (Fin.ext (by show (hh t).val / 2 * 128 + (64 + d.val) = (hh t).val * 64 + d.val; omega))))

/-- The kernel's scores at a grid point are the reference's. -/
theorem score_eq (c : Dev nD) (t : Fin cfg0.N) (q : Fin 2048) (k : ℕ) :
    Cert.FlashBlock.sN (iblk m c 0 t) (iblk m c 1 t) (iblk m c 2 t) (iblk m c 3 t) q k = Cert.FlashRef.sN (q0 m c) (q1 m c) (q2 m c) (q3 m c) (bb t) (hh t) q k := by
  unfold Cert.FlashBlock.sN Cert.FlashRef.sN
  by_cases hk : k ≤ q.val
  · rw [dif_pos hk, dif_pos hk]
    unfold Cert.FlashBlock.sc Cert.FlashRef.sc
    exact congrArg₂ (· + ·) (Finset.sum_congr rfl fun d _ => by rw [blk0, blk2]) (rot_eq m c t q _ _ _ (fun d => blk1 m c t q d) (fun d => (blk3 m c t _ d).trans (by rw [laid_out])))
  · rw [dif_neg hk, dif_neg hk]

/-- A sum of products of real numbers is real. -/
theorem real_sum {n : ℕ} (f g : Fin n → EReal) (hf : ∀ d, ∃ r : ℝ, f d = r) (hg : ∀ d, ∃ r : ℝ, g d = r) : ∃ r : ℝ, (∑ d, f d * g d) = r := by
  refine Finset.sum_induction _ (fun x : EReal => ∃ r : ℝ, x = (r : EReal)) ?_ ⟨0, rfl⟩ fun d _ => ?_
  · rintro _ _ ⟨a, rfl⟩ ⟨b, rfl⟩
    exact ⟨a + b, (EReal.coe_add a b).symm⟩
  · obtain ⟨a, ha⟩ := hf d
    obtain ⟨b, hb⟩ := hg d
    exact ⟨a * b, by rw [ha, hb, EReal.coe_mul]⟩

/-- The score of real queries and keys is real. -/
theorem sc_real {x0 x2 : FVec Ideal S8192x2048 .bf16} {x1 : FVec Ideal S8192x1024 .bf16} {x3 : FVec Ideal S8192x64 .bf16}
    (h0 : ∀ i, ∃ r : ℝ, x0 i = r) (h1 : ∀ i, ∃ r : ℝ, x1 i = r) (h2 : ∀ i, ∃ r : ℝ, x2 i = r) (h3 : ∀ i, ∃ r : ℝ, x3 i = r)
    (b : Fin 4) (h : Fin 16) (q k : Fin 2048) : ∃ r : ℝ, Cert.FlashRef.sc x0 x1 x2 x3 b h q k = r := by
  obtain ⟨u, hu⟩ := real_sum (fun d : Fin 128 => x0 (ix2 (rw8 b q) (cl h d))) (fun d => x2 (ix2 (rw8 b k) (cl h d))) (fun d => h0 _) (fun d => h2 _)
  obtain ⟨w, hw⟩ := real_sum (fun d : Fin 64 => x3 (ix2 (rw8 b k) d)) (fun d => x1 (ix2 (rw8 b q) (clr h d))) (fun d => h3 _) (fun d => h1 _)
  refine ⟨u + w, ?_⟩
  unfold Cert.FlashRef.sc
  rw [EReal.coe_add]
  exact congrArg₂ (· + ·) hu hw

section
variable {x0 x2 : FVec Ideal S8192x2048 .bf16} {x1 : FVec Ideal S8192x1024 .bf16} {x3 : FVec Ideal S8192x64 .bf16}
    (h0 : ∀ i, ∃ r : ℝ, x0 i = r) (h1 : ∀ i, ∃ r : ℝ, x1 i = r) (h2 : ∀ i, ∃ r : ℝ, x2 i = r) (h3 : ∀ i, ∃ r : ℝ, x3 i = r)
include h0 h1 h2 h3

/-- No score of real queries and keys is plus infinity. -/
theorem sN_ne_top (b : Fin 4) (h : Fin 16) (q : Fin 2048) (k : ℕ) : Cert.FlashRef.sN x0 x1 x2 x3 b h q k ≠ ⊤ := by
  unfold Cert.FlashRef.sN
  split
  · obtain ⟨r, hr⟩ := sc_real h0 h1 h2 h3 b h q ⟨k, by omega⟩
    rw [hr]; exact EReal.coe_ne_top r
  · exact bot_ne_top

/-- The denominator is not zero: the query's own score is real. -/
theorem den_ne (b : Fin 4) (h : Fin 16) (q : Fin 2048) : den (Cert.FlashRef.sN x0 x1 x2 x3 b h q) 2048 ≠ 0 := by
  refine den_ne_zero (sN_ne_top h0 h1 h2 h3 b h q) q.isLt ?_
  unfold Cert.FlashRef.sN
  rw [dif_pos le_rfl]
  obtain ⟨r, hr⟩ := sc_real h0 h1 h2 h3 b h q q
  rw [hr]; exact EReal.coe_ne_bot r
end

/-- Where the result's block lies. -/
theorem emb6 (t : Fin cfg0.N) (q : Fin 2048) (d : Fin 128) (X : FVec Ideal S8192x2048 .bf16) :
    X (((cfg0.win 6).blk t).view.emb (ix2 q d)) = X (ix2 (rw8 (bb t) q) (cl (hh t) d)) := by
  blk_point [idx t]

/-- The softmax's average of the values, with the division inside or outside the sum. -/
theorem point (c : Dev nD) (t : Fin cfg0.N) (y : S2048x128.Idx)
    (h0 : ∀ i, ∃ r : ℝ, q0 m c i = r) (h1 : ∀ i, ∃ r : ℝ, q1 m c i = r) (h2 : ∀ i, ∃ r : ℝ, q2 m c i = r) (h3 : ∀ i, ∃ r : ℝ, q3 m c i = r) :
    outsAt0 m c t y = Cert.AttnIdeal.Read.val_main_v37 (F := Ideal) (q0 m c) (q1 m c) (q2 m c) (q3 m c) (q4 m c) (q5 m c) (((cfg0.win 6).blk t).view.emb y) := by
  have hs : Cert.FlashBlock.sN (iblk m c 0 t) (iblk m c 1 t) (iblk m c 2 t) (iblk m c 3 t) = Cert.FlashRef.sN (q0 m c) (q1 m c) (q2 m c) (q3 m c) (bb t) (hh t) :=
    funext fun q => funext fun k => score_eq m c t q k
  idx_vars y
  refine Eq.trans ?_ (emb6 t y0 y1 _).symm
  refine (Cert.FlashBlock.block m c t (by rw [hs]; exact sN_ne_top h0 h1 h2 h3 _ _) _).trans ?_
  rw [Cert.FlashRef.v37_at]
  show Cert.FlashBlock.OUT _ _ _ _ _ _ y0 y1 = _
  unfold Cert.FlashBlock.OUT
  rw [hs, num_mul_inv _ (den_ne h0 h1 h2 h3 _ _ _)]
  refine congrArg₂ (· * ·) (Finset.sum_congr rfl fun k _ => ?_) (blk5 m c t y0 y1)
  rw [mul_comm]
  refine congrArg (· * _) ?_
  unfold Cert.FlashBlock.vN
  rw [dif_pos k.isLt]
  exact blk4 m c t k y1

/-- After the last grid point the result array is the reference's value of the arguments, the queries and keys being real. -/
theorem final (c : Dev nD)
    (h0 : ∀ i, ∃ r : ℝ, q0 m c i = r) (h1 : ∀ i, ∃ r : ℝ, q1 m c i = r) (h2 : ∀ i, ∃ r : ℝ, q2 m c i = r) (h3 : ∀ i, ∃ r : ℝ, q3 m c i = r) :
    (dats m 0 c).arrAt 6 (cfgs 0).N = Cert.AttnIdeal.Read.val_main_v37 (F := Ideal) (q0 m c) (q1 m c) (q2 m c) (q3 m c) (q4 m c) (q5 m c) := by
  refine (dats m 0 c).arrAt_eq_of_covers 6 _ (by decide +kernel) fun t _ y => ?_
  blk_simp
  rw [after0_6]
  exact point m c t y h0 h1 h2 h3

/-- What the comparisons of the precondition say of an entry. -/
theorem real_of {x : EReal} (h : IntOp.andi (BitVec.ofBool (decide (Ideal.ofBits .f32 0xFF800000#32 < x))) (BitVec.ofBool (decide (x < Ideal.ofBits .f32 0x7F800000#32))) = 1#1) :
    ∃ r : ℝ, x = r := by
  rw [show Ideal.ofBits .f32 0xFF800000#32 = (⊥ : EReal) from rfl, show Ideal.ofBits .f32 0x7F800000#32 = (⊤ : EReal) from rfl] at h
  induction x with
  | bot => exact absurd h (by simp [IntOp.andi])
  | top => exact absurd h (by simp [IntOp.andi])
  | coe r => exact ⟨r, rfl⟩

section
variable {x0 : FVec Ideal S8192x2048 .bf16} {x1 : FVec Ideal S8192x1024 .bf16} {x2 : FVec Ideal S8192x2048 .bf16} {x3 : FVec Ideal S8192x64 .bf16} {x4 x5 : FVec Ideal S8192x2048 .bf16}

/-- Under the precondition the queries are real. -/
theorem pre0 (h : (Cert.Pre_finite_scores.fn (F := Ideal) x0 x1 x2 x3 x4 x5).1 = fun _ => 1#1) (i : S8192x2048.Idx) : ∃ r : ℝ, x0 i = r := by
  have e := congrFun h i
  revert e
  idx_vars i
  pointwise [Cert.Pre_finite_scores.fn, Cert.Pre_finite_scores.fn_part1]
  exact real_of

/-- Under the precondition the rotary queries are real. -/
theorem pre1 (h : (Cert.Pre_finite_scores.fn (F := Ideal) x0 x1 x2 x3 x4 x5).2.1 = fun _ => 1#1) (i : S8192x1024.Idx) : ∃ r : ℝ, x1 i = r := by
  have e := congrFun h i
  revert e
  idx_vars i
  pointwise [Cert.Pre_finite_scores.fn, Cert.Pre_finite_scores.fn_part1]
  exact real_of

/-- Under the precondition the keys are real. -/
theorem pre2 (h : (Cert.Pre_finite_scores.fn (F := Ideal) x0 x1 x2 x3 x4 x5).2.2.1 = fun _ => 1#1) (i : S8192x2048.Idx) : ∃ r : ℝ, x2 i = r := by
  have e := congrFun h i
  revert e
  idx_vars i
  pointwise [Cert.Pre_finite_scores.fn, Cert.Pre_finite_scores.fn_part1]
  exact real_of

/-- Under the precondition the rotary keys are real. -/
theorem pre3 (h : (Cert.Pre_finite_scores.fn (F := Ideal) x0 x1 x2 x3 x4 x5).2.2.2 = fun _ => 1#1) (i : S8192x64.Idx) : ∃ r : ℝ, x3 i = r := by
  have e := congrFun h i
  revert e
  idx_vars i
  pointwise [Cert.Pre_finite_scores.fn, Cert.Pre_finite_scores.fn_part1]
  exact real_of
end

end Cert.FlashValue

end
-- ==== Proof.OutValue.lean ====
/- The output projection of a layer that is not the last: the kernel's result array is the reference's. -/
module

public import proofs.«01_k».proof.Proof.Gen.OutIdeal.Value
public import proofs.«01_k».proof.Proof.Gen.OutRefIdeal.Read
public import Idealize.ShloMosaic.Lib.Claim
public import Idealize.ShloMosaic.Lib.Pointwise
public import Idealize.ShloMosaic.Lib.Pipeline.ValueKit

@[expose] public section

set_option maxRecDepth 16384

noncomputable section

namespace Cert.OutIdealValue

open Cert.OutIdeal Cert.OutIdeal.Gen Idealize.ShloMosaic Idealize.ShloMosaic.TcCoe Idealize.SL.Sem
open Idealize.ShloMosaic.Pipeline (Dat)

variable (m : (ℓ : Loc nD τ sig) → Buf (Elt Ideal) ℓ)

/-- Where each window's block lies at grid point `t`: the rows of block `t` of the residual stream, of the
    attention's output and of the result; the weight and the norm's scale are whole at every point. -/
theorem idx : ∀ t : Fin cfg0.N, win0_0.index t = ![t.val, 0] ∧ win0_1.index t = ![t.val, 0] ∧ win0_2.index t = ![0, 0] ∧ win0_3.index t = ![0, 0] ∧ win0_4.index t = ![t.val, 0] :=
  (by decide +kernel : ∀ t : Fin grid0.N, _)

/-- At every index of block `t` the body's stored value is the residual plus the projection, as the reference has it. -/
theorem point (c : Dev nD) (t : Fin cfg0.N) (y : S512x2048.Idx) :
    k0_pay1 (iblk m c 0 t) (iblk m c 1 t) (iblk m c 2 t) y
      = Cert.OutRefIdeal.Read.val_main_v2 (F := Ideal) (m ((c : Thread nD τ).loc main_arg0)) (m ((c : Thread nD τ).loc main_arg1)) (m ((c : Thread nD τ).loc main_arg2)) (((cfg0.win 4).blk t).view.emb y) := by
  pointwise [k0_pay1, Cert.OutRefIdeal.Read.val_main_v0, Cert.OutRefIdeal.Read.val_main_v1, Cert.OutRefIdeal.Read.val_main_v2]
  blk_point [iblk, V, idx t]

/-- After the last grid point the result array is the reference's value of the arguments. -/
theorem final (c : Dev nD) :
    (dats m 0 c).arrAt 4 (cfgs 0).N = Cert.OutRefIdeal.Read.val_main_v2 (F := Ideal) (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  frame_out
  exact point m c t y

end Cert.OutIdealValue

end
-- ==== Proof.FinalValue.lean ====
/- The output projection of the last layer, with the final norm: the kernel's result array is the reference's. -/
module

public import proofs.«01_k».proof.Proof.Gen.FinalIdeal.Value
public import proofs.«01_k».proof.Proof.Gen.FinalRefIdeal.Read
public import Idealize.ShloMosaic.Lib.Claim
public import Idealize.ShloMosaic.Lib.Pointwise
public import Idealize.ShloMosaic.Lib.Pipeline.ValueKit

@[expose] public section

set_option maxRecDepth 16384

noncomputable section

namespace Cert.FinalIdealValue

open Cert.FinalIdeal Cert.FinalIdeal.Gen Idealize.ShloMosaic Idealize.ShloMosaic.TcCoe Idealize.SL.Sem
open Idealize.ShloMosaic.Pipeline (Dat)

variable (m : (ℓ : Loc nD τ sig) → Buf (Elt Ideal) ℓ)

/-- Where each window's block lies at grid point `t`: the rows of block `t` of the residual stream, of the
    attention's output and of the result; the weight and the norm's scale are whole at every point. -/
theorem idx : ∀ t : Fin cfg0.N, win0_0.index t = ![t.val, 0] ∧ win0_1.index t = ![t.val, 0] ∧ win0_2.index t = ![0, 0] ∧ win0_3.index t = ![0, 0] ∧ win0_4.index t = ![t.val, 0] :=
  (by decide +kernel : ∀ t : Fin grid0.N, _)

/-- At every index of block `t` the body's stored value is the normed residual plus projection, as the reference has it. -/
theorem point (c : Dev nD) (t : Fin cfg0.N) (y : S512x2048.Idx) :
    k0_pay1 (iblk m c 0 t) (iblk m c 1 t) (iblk m c 2 t) (iblk m c 3 t) y
      = Cert.FinalRefIdeal.Read.val_main_v15 (F := Ideal) (m ((c : Thread nD τ).loc main_arg0)) (m ((c : Thread nD τ).loc main_arg1)) (m ((c : Thread nD τ).loc main_arg2)) (m ((c : Thread nD τ).loc main_arg3)) (((cfg0.win 4).blk t).view.emb y) := by
  pointwise [k0_pay1, Cert.FinalRefIdeal.Read.val_main_v0, Cert.FinalRefIdeal.Read.val_main_v1, Cert.FinalRefIdeal.Read.val_main_v2, Cert.FinalRefIdeal.Read.val_main_v3, Cert.FinalRefIdeal.Read.val_main_v4, Cert.FinalRefIdeal.Read.val_main_v5, Cert.FinalRefIdeal.Read.val_main_v6, Cert.FinalRefIdeal.Read.val_main_v7, Cert.FinalRefIdeal.Read.val_main_v8, Cert.FinalRefIdeal.Read.val_main_v9, Cert.FinalRefIdeal.Read.val_main_v10, Cert.FinalRefIdeal.Read.val_main_v11, Cert.FinalRefIdeal.Read.val_main_v12, Cert.FinalRefIdeal.Read.val_main_v13, Cert.FinalRefIdeal.Read.val_main_v14, Cert.FinalRefIdeal.Read.val_main_v15, Cert.FinalRefIdeal.Read.val_main_cst, Cert.FinalRefIdeal.Read.val_main_cst_0, Cert.FinalRefIdeal.Read.val_main_cst_1]
  blk_point [iblk, V, idx t]

/-- After the last grid point the result array is the reference's value of the arguments. -/
theorem final (c : Dev nD) :
    (dats m 0 c).arrAt 4 (cfgs 0).N = Cert.FinalRefIdeal.Read.val_main_v15 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  frame_out
  exact point m c t y

end Cert.FinalIdealValue

end
-- ==== Proof.MlaInPure.lean ====
/- The latent-attention layer's projections before its attention: each value the kernel computes from a block of rows is the reference's, over any blocks that hold the arguments' entries. -/
module

public import proofs.«01_k».proof.Proof.Gen.MlaInIdeal.Value
public import proofs.«01_k».proof.Proof.Gen.MlaInRefIdeal.Read
public import Idealize.ShloMosaic.Lib.Claim
public import Idealize.ShloMosaic.Lib.Pointwise
public import Idealize.ShloMosaic.Lib.WordCmp
public import Idealize.ShloMosaic.Lib.Pipeline.ValueKit

@[expose] public section

set_option maxRecDepth 16384

noncomputable section

namespace Cert.MlaInPure

open Cert.MlaInIdeal Cert.MlaInIdeal.Gen Idealize.ShloMosaic Idealize.ShloMosaic.TcCoe Idealize.SL.Sem

variable (X : FVec Ideal S8192x2048 .f32) (LN : FVec Ideal S2048 .f32) (W : FVec Ideal S2048x3136 .f32) (QN : FVec Ideal S512 .f32) (UQ : FVec Ideal S512x3072 .f32) (KN : FVec Ideal S512 .f32) (UKV : FVec Ideal S512x4096 .f32) (C S : FVec Ideal S8192x32 .f32)
variable (R : Fin 256 → Fin 8192)

/-- The normed rows of a block are the reference's. -/
theorem h_at {x0 : FVec Ideal S256x2048 .f32} {x1 : FVec Ideal S1x2048 .f32} (h0 : ∀ q k, x0 (ix2 q k) = X (ix2 (R q) k)) (h1 : ∀ k, x1 (ix2 0 k) = LN (ix1 k)) (q : Fin 256) (k : Fin 2048) :
    k0_pay1 (F := Ideal) x0 x1 (ix2 q k) = Cert.MlaInRefIdeal.Read.val_main_v12 (F := Ideal) X LN (ix2 (R q) k) := by
  pointwise [k0_pay1, Cert.MlaInRefIdeal.Read.val_main_v0, Cert.MlaInRefIdeal.Read.val_main_v1, Cert.MlaInRefIdeal.Read.val_main_v2, Cert.MlaInRefIdeal.Read.val_main_v3, Cert.MlaInRefIdeal.Read.val_main_v4, Cert.MlaInRefIdeal.Read.val_main_v5, Cert.MlaInRefIdeal.Read.val_main_v6, Cert.MlaInRefIdeal.Read.val_main_v7, Cert.MlaInRefIdeal.Read.val_main_v8, Cert.MlaInRefIdeal.Read.val_main_v9, Cert.MlaInRefIdeal.Read.val_main_v10, Cert.MlaInRefIdeal.Read.val_main_v11, Cert.MlaInRefIdeal.Read.val_main_v12, Cert.MlaInRefIdeal.Read.val_main_cst, Cert.MlaInRefIdeal.Read.val_main_cst_0, Cert.MlaInRefIdeal.Read.val_main_cst_1, h0, h1]

/-- The query's normed latent rows. -/
theorem cq_at {x0 : FVec Ideal S256x2048 .f32} {x1 : FVec Ideal S1x2048 .f32} {x2 : FVec Ideal S2048x512 .bf16} {x6 : FVec Ideal S1x512 .f32} (h0 : ∀ q k, x0 (ix2 q k) = X (ix2 (R q) k)) (h1 : ∀ k, x1 (ix2 0 k) = LN (ix1 k))
    (h2 : ∀ k (j : Fin 512), x2 (ix2 k j) = W (ix2 k ⟨j.val, by omega⟩)) (h6 : ∀ k, x6 (ix2 0 k) = QN (ix1 k)) (q : Fin 256) (j : Fin 512) :
    k0_pay4 (F := Ideal) x0 x1 x2 x6 (ix2 q j) = Cert.MlaInRefIdeal.Read.val_main_v30 (F := Ideal) X LN W QN (ix2 (R q) j) := by
  pointwise [k0_pay4, Cert.MlaInRefIdeal.Read.val_main_v13, Cert.MlaInRefIdeal.Read.val_main_v14, Cert.MlaInRefIdeal.Read.val_main_v18, Cert.MlaInRefIdeal.Read.val_main_v19, Cert.MlaInRefIdeal.Read.val_main_v20, Cert.MlaInRefIdeal.Read.val_main_v21, Cert.MlaInRefIdeal.Read.val_main_v22, Cert.MlaInRefIdeal.Read.val_main_v23, Cert.MlaInRefIdeal.Read.val_main_v24, Cert.MlaInRefIdeal.Read.val_main_v25, Cert.MlaInRefIdeal.Read.val_main_v26, Cert.MlaInRefIdeal.Read.val_main_v27, Cert.MlaInRefIdeal.Read.val_main_v28, Cert.MlaInRefIdeal.Read.val_main_v29, Cert.MlaInRefIdeal.Read.val_main_v30, Cert.MlaInRefIdeal.Read.val_main_cst_2, Cert.MlaInRefIdeal.Read.val_main_cst_3, Cert.MlaInRefIdeal.Read.val_main_cst_4, h_at X LN R h0 h1, h2, h6]

/-- The key and value's normed latent rows. -/
theorem ckv_at {h : FVec Ideal S256x2048 .bf16} {x3 : FVec Ideal S2048x512 .bf16} {x7 : FVec Ideal S1x512 .f32} (hh : ∀ q k, h (ix2 q k) = Cert.MlaInRefIdeal.Read.val_main_v12 (F := Ideal) X LN (ix2 (R q) k))
    (h3 : ∀ k (j : Fin 512), x3 (ix2 k j) = W (ix2 k ⟨512 + j.val, by omega⟩)) (h7 : ∀ k, x7 (ix2 0 k) = KN (ix1 k)) (q : Fin 256) (j : Fin 512) :
    k0_pay7 h x3 x7 (ix2 q j) = Cert.MlaInRefIdeal.Read.val_main_v67 (F := Ideal) X LN W KN (ix2 (R q) j) := by
  pointwise [k0_pay7, Cert.MlaInRefIdeal.Read.val_main_v13, Cert.MlaInRefIdeal.Read.val_main_v15, Cert.MlaInRefIdeal.Read.val_main_v55, Cert.MlaInRefIdeal.Read.val_main_v56, Cert.MlaInRefIdeal.Read.val_main_v57, Cert.MlaInRefIdeal.Read.val_main_v58, Cert.MlaInRefIdeal.Read.val_main_v59, Cert.MlaInRefIdeal.Read.val_main_v60, Cert.MlaInRefIdeal.Read.val_main_v61, Cert.MlaInRefIdeal.Read.val_main_v62, Cert.MlaInRefIdeal.Read.val_main_v63, Cert.MlaInRefIdeal.Read.val_main_v64, Cert.MlaInRefIdeal.Read.val_main_v65, Cert.MlaInRefIdeal.Read.val_main_v66, Cert.MlaInRefIdeal.Read.val_main_v67, Cert.MlaInRefIdeal.Read.val_main_cst_7, Cert.MlaInRefIdeal.Read.val_main_cst_8, Cert.MlaInRefIdeal.Read.val_main_cst_9, hh, h3, h7]

/-- The position-free part of the queries. -/
theorem qn_at {cq : FVec Ideal S256x512 .bf16} {x8 : FVec Ideal S512x2048 .bf16} (hc : ∀ q j, cq (ix2 q j) = Cert.MlaInRefIdeal.Read.val_main_v30 (F := Ideal) X LN W QN (ix2 (R q) j))
    (h8 : ∀ k (j : Fin 2048), x8 (ix2 k j) = UQ (ix2 k ⟨j.val / 128 * 192 + j.val % 128, by omega⟩)) (q : Fin 256) (j : Fin 2048) :
    k0_pay5 cq x8 (ix2 q j) = Cert.MlaInRefIdeal.Read.val_main_v88 (F := Ideal) X LN W QN UQ (ix2 (R q) j) := by
  pointwise [k0_pay5, Cert.MlaInRefIdeal.Read.val_main_v31, Cert.MlaInRefIdeal.Read.val_main_v32, Cert.MlaInRefIdeal.Read.val_main_v33, Cert.MlaInRefIdeal.Read.val_main_v34, Cert.MlaInRefIdeal.Read.val_main_v35, Cert.MlaInRefIdeal.Read.val_main_v87, Cert.MlaInRefIdeal.Read.val_main_v88, Cert.MlaInRefIdeal.Read.val_main_cst_5, hc, h8]

/-- The position-free part of the keys. -/
theorem kn_at {h : FVec Ideal S256x2048 .bf16} {x3 : FVec Ideal S2048x512 .bf16} {x7 : FVec Ideal S1x512 .f32} {x10 : FVec Ideal S512x2048 .bf16} (hc : ∀ q j, k0_pay7 h x3 x7 (ix2 q j) = Cert.MlaInRefIdeal.Read.val_main_v67 (F := Ideal) X LN W KN (ix2 (R q) j))
    (h10 : ∀ k (j : Fin 2048), x10 (ix2 k j) = UKV (ix2 k ⟨j.val / 128 * 256 + j.val % 128, by omega⟩)) (q : Fin 256) (j : Fin 2048) :
    k0_pay8 h x3 x7 x10 (ix2 q j) = Cert.MlaInRefIdeal.Read.val_main_v92 (F := Ideal) X LN W KN UKV (ix2 (R q) j) := by
  pointwise [k0_pay8, Cert.MlaInRefIdeal.Read.val_main_v68, Cert.MlaInRefIdeal.Read.val_main_v69, Cert.MlaInRefIdeal.Read.val_main_v70, Cert.MlaInRefIdeal.Read.val_main_v91, Cert.MlaInRefIdeal.Read.val_main_v92, hc, h10]

/-- The values. -/
theorem v_at {h : FVec Ideal S256x2048 .bf16} {x3 : FVec Ideal S2048x512 .bf16} {x7 : FVec Ideal S1x512 .f32} {x11 : FVec Ideal S512x2048 .bf16} (hc : ∀ q j, k0_pay7 h x3 x7 (ix2 q j) = Cert.MlaInRefIdeal.Read.val_main_v67 (F := Ideal) X LN W KN (ix2 (R q) j))
    (h11 : ∀ k (j : Fin 2048), x11 (ix2 k j) = UKV (ix2 k ⟨j.val / 128 * 256 + (128 + j.val % 128), by omega⟩)) (q : Fin 256) (j : Fin 2048) :
    k0_pay9 h x3 x7 x11 (ix2 q j) = Cert.MlaInRefIdeal.Read.val_main_v94 (F := Ideal) X LN W KN UKV (ix2 (R q) j) := by
  pointwise [k0_pay9, Cert.MlaInRefIdeal.Read.val_main_v68, Cert.MlaInRefIdeal.Read.val_main_v69, Cert.MlaInRefIdeal.Read.val_main_v71, Cert.MlaInRefIdeal.Read.val_main_v93, Cert.MlaInRefIdeal.Read.val_main_v94, hc, h11]

/-- The gate. -/
theorem g_at {h : FVec Ideal S256x2048 .bf16} {x4 : FVec Ideal S2048x2048 .bf16} (hh : ∀ q k, h (ix2 q k) = Cert.MlaInRefIdeal.Read.val_main_v12 (F := Ideal) X LN (ix2 (R q) k))
    (h4 : ∀ k (j : Fin 2048), x4 (ix2 k j) = W (ix2 k ⟨1088 + j.val, by omega⟩)) (q : Fin 256) (j : Fin 2048) :
    k0_pay17 h x4 (ix2 q j) = Cert.MlaInRefIdeal.Read.val_main_v98 (F := Ideal) X LN W (ix2 (R q) j) := by
  pointwise [k0_pay17, Cert.MlaInRefIdeal.Read.val_main_v13, Cert.MlaInRefIdeal.Read.val_main_v17, Cert.MlaInRefIdeal.Read.val_main_v97, Cert.MlaInRefIdeal.Read.val_main_v98, Cert.MlaInRefIdeal.Read.val_main_call0_v5, Cert.MlaInRefIdeal.Read.val_main_call0_v4, Cert.MlaInRefIdeal.Read.val_main_call0_v3, Cert.MlaInRefIdeal.Read.val_main_call0_v2, Cert.MlaInRefIdeal.Read.val_main_call0_v1, Cert.MlaInRefIdeal.Read.val_main_call0_v0, Cert.MlaInRefIdeal.Read.val_main_call0_cst, Cert.MlaInRefIdeal.Read.val_main_call0_cst_0, hh, h4]
  rfl

/-- The mask of a rotation: the lane's place in its 64 is in the first half. -/
theorem lane : ∀ n : Fin 1024, IntOp.cmpi CmpIPredicate.slt
            (Scalar.select
              (IntOp.andi
                (IntOp.xori
                  (IntOp.cmpi CmpIPredicate.slt
                    (IntOp.remsi ArithUnit.vector (BitVec.ofNat 32 n.val)
                      (Scalar.select (Scalar.cmpi CmpIPredicate.eq 64#32 0#32) 1#32 64#32))
                    0#32)
                  (Scalar.cmpi CmpIPredicate.slt (Scalar.select (Scalar.cmpi CmpIPredicate.eq 64#32 0#32) 1#32 64#32)
                    0#32))
                (IntOp.cmpi CmpIPredicate.ne
                  (IntOp.remsi ArithUnit.vector (BitVec.ofNat 32 n.val)
                    (Scalar.select (Scalar.cmpi CmpIPredicate.eq 64#32 0#32) 1#32 64#32))
                  0#32))
              (IntOp.addi
                (IntOp.remsi ArithUnit.vector (BitVec.ofNat 32 n.val)
                  (Scalar.select (Scalar.cmpi CmpIPredicate.eq 64#32 0#32) 1#32 64#32))
                (Scalar.select (Scalar.cmpi CmpIPredicate.eq 64#32 0#32) 1#32 64#32))
              (IntOp.remsi ArithUnit.vector (BitVec.ofNat 32 n.val)
                (Scalar.select (Scalar.cmpi CmpIPredicate.eq 64#32 0#32) 1#32 64#32)))
            32#32 = BitVec.ofBool (decide (n.val % 64 < 32)) := by decide +kernel

/-- Selecting on a decided proposition. -/
theorem sel {p : Prop} [Decidable p] {α : Type} (a b : α) : Scalar.select (BitVec.ofBool (decide p)) a b = if p then a else b := by
  by_cases h : p
  · rw [decide_eq_true h, if_pos h]; rfl
  · rw [decide_eq_false h, if_neg h]; rfl

set_option maxHeartbeats 1600000 in
/-- The rotated shared key, on both copies of its lanes. -/
theorem rope_at {h : FVec Ideal S256x2048 .bf16} {x5 : FVec Ideal S2048x128 .bf16} {x12 x13 : FVec Ideal S256x128 .f32} (hh : ∀ q k, h (ix2 q k) = Cert.MlaInRefIdeal.Read.val_main_v12 (F := Ideal) X LN (ix2 (R q) k))
    (h5 : ∀ k (j : Fin 128), x5 (ix2 k j) = W (ix2 k ⟨1024 + j.val % 64, by omega⟩)) (h12 : ∀ q (j : Fin 128), x12 (ix2 q j) = C (ix2 (R q) ⟨j.val % 32, by omega⟩))
    (h13 : ∀ q (j : Fin 128), x13 (ix2 q j) = if j.val % 64 < 32 then - S (ix2 (R q) ⟨j.val % 32, by omega⟩) else S (ix2 (R q) ⟨j.val % 32, by omega⟩)) (q : Fin 256) (j : Fin 128) :
    k0_pay13 (F := Ideal) x12 x13 (k0_pay10 h x5) (k0_pay11 h x5) (k0_pay12 h x5) (ix2 q j) = Cert.MlaInRefIdeal.Read.val_main_v85 (F := Ideal) X LN W C S (ix2 (R q) ⟨j.val % 64, by omega⟩) := by
  pointwise [k0_pay13, k0_pay11, k0_pay12, k0_pay10, Cert.MlaInRefIdeal.Read.val_main_v13, Cert.MlaInRefIdeal.Read.val_main_v16, Cert.MlaInRefIdeal.Read.val_main_v72, Cert.MlaInRefIdeal.Read.val_main_v73, Cert.MlaInRefIdeal.Read.val_main_v74, Cert.MlaInRefIdeal.Read.val_main_v75, Cert.MlaInRefIdeal.Read.val_main_v76, Cert.MlaInRefIdeal.Read.val_main_v77, Cert.MlaInRefIdeal.Read.val_main_v78, Cert.MlaInRefIdeal.Read.val_main_v79, Cert.MlaInRefIdeal.Read.val_main_v80, Cert.MlaInRefIdeal.Read.val_main_v81, Cert.MlaInRefIdeal.Read.val_main_v82, Cert.MlaInRefIdeal.Read.val_main_v83, Cert.MlaInRefIdeal.Read.val_main_v84, Cert.MlaInRefIdeal.Read.val_main_v85, hh, h5, h12, h13]
  have L := lane ⟨j.val, by omega⟩
  dsimp only at L
  simp only [L, sel]
  by_cases hj : j.val % 64 < 32
  · rw [if_pos hj, if_pos hj, dif_pos hj, mul_neg, ← sub_eq_add_neg]
    have e1 : j.val % 32 = j.val % 64 := by omega
    have e2 : (j.val + 128 - 96) % 128 % 64 = 32 + j.val % 64 := by omega
    simp only [e1, e2]
  · rw [if_neg hj, if_neg hj, dif_neg hj, dif_pos (by omega)]
    have e1 : j.val % 32 = j.val % 64 - 32 := by omega
    have e2 : (j.val + 128 - 32) % 128 % 64 = j.val % 64 - 32 := by omega
    have e3 : 32 + (j.val % 64 - 32) = j.val % 64 := by omega
    simp only [e1, e2, e3]

/-- A read at an equal lane. -/
theorem at_lane (f : FVec Ideal S256x128 .f32) (q : Fin 256) {a b : ℕ} (ha : a < 128) (hb : b < 128) (h : a = b) : f (ix2 q ⟨a, ha⟩) = f (ix2 q ⟨b, hb⟩) := by
  subst h; rfl

/-- A table repeated eight times along the lanes is read at the lane's place in its 128. -/
theorem tab (f : FVec Ideal S256x128 .f32) (q : Fin 256) (j : Fin 1024) : (if h : j.val < 128 then f (ix2 q ⟨j.val, by omega⟩) else if h : j.val - 128 < 128 then f (ix2 q ⟨j.val - 128, by omega⟩) else if h : j.val - 128 - 128 < 128 then f (ix2 q ⟨j.val - 128 - 128, by omega⟩) else if h : j.val - 128 - 128 - 128 < 128 then f (ix2 q ⟨j.val - 128 - 128 - 128, by omega⟩) else if h : j.val - 128 - 128 - 128 - 128 < 128 then f (ix2 q ⟨j.val - 128 - 128 - 128 - 128, by omega⟩) else if h : j.val - 128 - 128 - 128 - 128 - 128 < 128 then f (ix2 q ⟨j.val - 128 - 128 - 128 - 128 - 128, by omega⟩) else if h : j.val - 128 - 128 - 128 - 128 - 128 - 128 < 128 then f (ix2 q ⟨j.val - 128 - 128 - 128 - 128 - 128 - 128, by omega⟩) else f (ix2 q ⟨j.val - 128 - 128 - 128 - 128 - 128 - 128 - 128, by omega⟩)) = f (ix2 q ⟨j.val % 128, by omega⟩) := by
  split_ifs <;> exact at_lane f q _ _ (by omega)

set_option maxHeartbeats 1600000 in
/-- The rotated part of the queries. -/
theorem qr_at {cq : FVec Ideal S256x512 .bf16} {x9 : FVec Ideal S512x1024 .bf16} {x12 x13 : FVec Ideal S256x128 .f32} (hc : ∀ q j, cq (ix2 q j) = Cert.MlaInRefIdeal.Read.val_main_v30 (F := Ideal) X LN W QN (ix2 (R q) j))
    (h9 : ∀ k (j : Fin 1024), x9 (ix2 k j) = UQ (ix2 k ⟨j.val / 64 * 192 + (128 + j.val % 64), by omega⟩)) (h12 : ∀ q (j : Fin 128), x12 (ix2 q j) = C (ix2 (R q) ⟨j.val % 32, by omega⟩))
    (h13 : ∀ q (j : Fin 128), x13 (ix2 q j) = if j.val % 64 < 32 then - S (ix2 (R q) ⟨j.val % 32, by omega⟩) else S (ix2 (R q) ⟨j.val % 32, by omega⟩)) (q : Fin 256) (j : Fin 1024) :
    k0_pay6 (F := Ideal) x12 x13 cq x9 (ix2 q j) = Cert.MlaInRefIdeal.Read.val_main_v90 (F := Ideal) X LN W QN UQ C S (ix2 (R q) j) := by
  pointwise [k0_pay6, Cert.MlaInRefIdeal.Read.val_main_v31, Cert.MlaInRefIdeal.Read.val_main_v32, Cert.MlaInRefIdeal.Read.val_main_v36, Cert.MlaInRefIdeal.Read.val_main_v37, Cert.MlaInRefIdeal.Read.val_main_v38, Cert.MlaInRefIdeal.Read.val_main_v39, Cert.MlaInRefIdeal.Read.val_main_v40, Cert.MlaInRefIdeal.Read.val_main_v41, Cert.MlaInRefIdeal.Read.val_main_v42, Cert.MlaInRefIdeal.Read.val_main_v43, Cert.MlaInRefIdeal.Read.val_main_v44, Cert.MlaInRefIdeal.Read.val_main_v45, Cert.MlaInRefIdeal.Read.val_main_v46, Cert.MlaInRefIdeal.Read.val_main_v47, Cert.MlaInRefIdeal.Read.val_main_v48, Cert.MlaInRefIdeal.Read.val_main_v49, Cert.MlaInRefIdeal.Read.val_main_v50, Cert.MlaInRefIdeal.Read.val_main_v51, Cert.MlaInRefIdeal.Read.val_main_v52, Cert.MlaInRefIdeal.Read.val_main_v53, Cert.MlaInRefIdeal.Read.val_main_v54, Cert.MlaInRefIdeal.Read.val_main_v89, Cert.MlaInRefIdeal.Read.val_main_v90, Cert.MlaInRefIdeal.Read.val_main_cst_6, hc, h9]
  have L := lane ⟨j.val, by omega⟩
  dsimp only at L
  simp only [L, sel, tab]
  refine congrArg (· * _) ?_
  rw [h12, h13]
  dsimp only
  have t1 : j.val % 128 % 64 = j.val % 64 := by omega
  have t2 : j.val % 128 % 32 = j.val % 32 := by omega
  simp only [t1, t2]
  by_cases hj : j.val % 64 < 32
  · simp only [hj, ↓reduceIte, ↓reduceDIte, mul_neg, ← sub_eq_add_neg]
    have e1 : j.val % 32 = j.val % 64 := by omega
    have e2 : (j.val + 1024 - 992) % 1024 / 64 * 192 + (128 + (j.val + 1024 - 992) % 1024 % 64) = j.val / 64 * 192 + (128 + (32 + j.val % 64)) := by omega
    simp only [e1, e2]
  · have hk : j.val % 64 - 32 < 32 := by omega
    simp only [hj, hk, ↓reduceIte, ↓reduceDIte]
    have e1 : j.val % 32 = j.val % 64 - 32 := by omega
    have e2 : (j.val + 1024 - 32) % 1024 / 64 * 192 + (128 + (j.val + 1024 - 32) % 1024 % 64) = j.val / 64 * 192 + (128 + (j.val % 64 - 32)) := by omega
    have e3 : 32 + (j.val % 64 - 32) = j.val % 64 := by omega
    simp only [e1, e2, e3]

/-- The mask of a half: the lane is below 64. -/
theorem half : ∀ n : Fin 128, IntOp.cmpi CmpIPredicate.slt (BitVec.ofNat 32 n.val) 64#32 = BitVec.ofBool (decide (n.val < 64)) := by decide +kernel

/-- The first 128 lanes of the shared key: the rotated key, then zeros. -/
theorem krp0 {x12 x13 a b d : FVec Ideal S256x128 .f32} (hr : ∀ q (j : Fin 128), k0_pay13 (F := Ideal) x12 x13 a b d (ix2 q j) = Cert.MlaInRefIdeal.Read.val_main_v85 (F := Ideal) X LN W C S (ix2 (R q) ⟨j.val % 64, by omega⟩)) (q : Fin 256) (j : Fin 128) :
    k0_pay15 (F := Ideal) x12 x13 a b d (ix2 q j) = Cert.MlaInRefIdeal.Read.val_main_v96 (F := Ideal) X LN W C S (ix2 (R q) ⟨j.val, by omega⟩) := by
  have L := half j
  pointwise [k0_pay15, k0_pay14, Cert.MlaInRefIdeal.Read.val_main_v86, Cert.MlaInRefIdeal.Read.val_main_v95, Cert.MlaInRefIdeal.Read.val_main_v96, Cert.MlaInRefIdeal.Read.val_main_cst_10, hr]
  simp only [L, sel]
  have e : ∀ {u v : ℕ} (hu : u < 64) (hv : v < 64), u = v → Cert.MlaInRefIdeal.Read.val_main_v85 (F := Ideal) X LN W C S (ix2 (R q) ⟨u, hu⟩) = Cert.MlaInRefIdeal.Read.val_main_v85 (F := Ideal) X LN W C S (ix2 (R q) ⟨v, hv⟩) := fun _ _ h => by subst h; rfl
  by_cases h1 : j.val < 64
  · rw [if_pos h1, dif_pos h1]
    exact e _ _ (by omega)
  · rw [if_neg h1, dif_neg h1]
    have h2 : j.val - 64 < 64 := by omega
    simp only [h2, ↓reduceDIte]

/-- The last 128 lanes of the shared key: zeros, then the rotated key. -/
theorem krp1 {x12 x13 a b d : FVec Ideal S256x128 .f32} (hr : ∀ q (j : Fin 128), k0_pay13 (F := Ideal) x12 x13 a b d (ix2 q j) = Cert.MlaInRefIdeal.Read.val_main_v85 (F := Ideal) X LN W C S (ix2 (R q) ⟨j.val % 64, by omega⟩)) (q : Fin 256) (j : Fin 128) :
    k0_pay16 (F := Ideal) x12 x13 a b d (ix2 q j) = Cert.MlaInRefIdeal.Read.val_main_v96 (F := Ideal) X LN W C S (ix2 (R q) ⟨128 + j.val, by omega⟩) := by
  have L := half j
  pointwise [k0_pay16, k0_pay14, Cert.MlaInRefIdeal.Read.val_main_v86, Cert.MlaInRefIdeal.Read.val_main_v95, Cert.MlaInRefIdeal.Read.val_main_v96, Cert.MlaInRefIdeal.Read.val_main_cst_10, hr]
  simp only [L, sel]
  have e : ∀ {u v : ℕ} (hu : u < 64) (hv : v < 64), u = v → Cert.MlaInRefIdeal.Read.val_main_v85 (F := Ideal) X LN W C S (ix2 (R q) ⟨u, hu⟩) = Cert.MlaInRefIdeal.Read.val_main_v85 (F := Ideal) X LN W C S (ix2 (R q) ⟨v, hv⟩) := fun _ _ h => by subst h; rfl
  have h0 : ¬ 128 + j.val < 64 := by omega
  have h2 : ¬ 128 + j.val - 64 < 64 := by omega
  by_cases h1 : j.val < 64
  · have h3 : 128 + j.val - 64 - 64 < 64 := by omega
    simp only [h0, h1, h2, h3, ↓reduceIte, ↓reduceDIte]
  · have h3 : ¬ 128 + j.val - 64 - 64 < 64 := by omega
    simp only [h0, h1, h2, h3, ↓reduceIte, ↓reduceDIte]
    exact e _ _ (by omega)

end Cert.MlaInPure
-- ==== Proof.MlaInOps.lean ====
/- The latent-attention layer's projections before its attention: what the host prepares, and what each block of a window holds, entry by entry. -/
module

public import proofs.«01_k».proof.Proof.Gen.MlaInIdeal.Value
public import proofs.«01_k».proof.Proof.Gen.MlaInRefIdeal.Read
public import Idealize.ShloMosaic.Lib.Claim
public import Idealize.ShloMosaic.Lib.Pointwise
public import Idealize.ShloMosaic.Lib.WordCmp
public import Idealize.ShloMosaic.Lib.Pipeline.ValueKit
public import Idealize.ShloMosaic.Lib.StableHlo.RunRead

@[expose] public section

set_option maxRecDepth 16384

noncomputable section

namespace Cert.MlaInValue
open Cert.MlaInIdeal Cert.MlaInIdeal.Gen Idealize.ShloMosaic Idealize.ShloMosaic.TcCoe Idealize.SL.Sem
open Idealize.ShloMosaic.Pipeline (Dat)
variable (m : (ℓ : Loc nD τ sig) → Buf (Elt Ideal) ℓ)

/-- Where each window's block lies at grid point `t`. -/
theorem idx : ∀ t : Fin cfg0.N, win0_0.index t = ![t.val, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![t.val, 0] ∧ win0_13.index t = ![t.val, 0] ∧ win0_14.index t = ![t.val, 0] ∧ win0_15.index t = ![t.val, 0] ∧ win0_16.index t = ![t.val, 0] ∧ win0_17.index t = ![t.val, 0] ∧ win0_18.index t = ![t.val, 0] ∧ win0_19.index t = ![t.val, 0] :=
  (by decide +kernel : ∀ t : Fin grid0.N, _)

/-- The row of the whole array that row `q` of block `t` is. -/
def rw_ (t : Fin cfg0.N) (q : Fin 256) : Fin 8192 := ⟨256 * t.val + q.val, by have : t.val < 32 := t.isLt; omega⟩

/-- A block of the first window, read at an index: a row of the residual stream. -/
theorem b0 (c : Dev nD) (t : Fin cfg0.N) (q : Fin 256) (k : Fin 2048) : iblk m c 0 t (ix2 q k) = m ((c : Thread nD τ).loc main_arg0) (ix2 (rw_ t q) k) := by
  blk_point [iblk, V, idx t, rw_]

/-- The queries' part of the input weight as the host cuts it out: each entry is an entry of the argument. -/
theorem V8 (c : Dev nD) (k : Fin 2048) (j : Fin 512) : V m c main_v8 (ix2 k j) = m ((c : Thread nD τ).loc main_arg2) (ix2 k ⟨j.val, by omega⟩) := by
  simp only [V]
  after_reads_simp
  pointwise []

/-- The keys' and values' latent part of the input weight: each entry is an entry of the argument. -/
theorem V10 (c : Dev nD) (k : Fin 2048) (j : Fin 512) : V m c main_v10 (ix2 k j) = m ((c : Thread nD τ).loc main_arg2) (ix2 k ⟨512 + j.val, by omega⟩) := by
  simp only [V]
  after_reads_simp
  pointwise []

/-- The gate's part of the input weight: each entry is an entry of the argument. -/
theorem V14 (c : Dev nD) (k : Fin 2048) (j : Fin 2048) : V m c main_v14 (ix2 k j) = m ((c : Thread nD τ).loc main_arg2) (ix2 k ⟨1088 + j.val, by omega⟩) := by
  simp only [V]
  after_reads_simp
  pointwise []

/-- The position-free columns of the queries' weight, heads side by side: each entry is an entry of the argument. -/
theorem V19 (c : Dev nD) (k : Fin 512) (j : Fin 2048) : V m c main_v19 (ix2 k j) = m ((c : Thread nD τ).loc main_arg4) (ix2 k ⟨j.val / 128 * 192 + j.val % 128, by omega⟩) := by
  simp only [V]
  after_reads_simp
  pointwise []

/-- The rotated columns of the queries' weight, heads side by side: each entry is an entry of the argument. -/
theorem V22 (c : Dev nD) (k : Fin 512) (j : Fin 1024) : V m c main_v22 (ix2 k j) = m ((c : Thread nD τ).loc main_arg4) (ix2 k ⟨j.val / 64 * 192 + (128 + j.val % 64), by omega⟩) := by
  simp only [V]
  after_reads_simp
  pointwise []

/-- The key columns of the keys' and values' weight, heads side by side: each entry is an entry of the argument. -/
theorem V25 (c : Dev nD) (k : Fin 512) (j : Fin 2048) : V m c main_v25 (ix2 k j) = m ((c : Thread nD τ).loc main_arg6) (ix2 k ⟨j.val / 128 * 256 + j.val % 128, by omega⟩) := by
  simp only [V]
  after_reads_simp
  pointwise []

/-- The value columns of the keys' and values' weight, heads side by side: each entry is an entry of the argument. -/
theorem V28 (c : Dev nD) (k : Fin 512) (j : Fin 2048) : V m c main_v28 (ix2 k j) = m ((c : Thread nD τ).loc main_arg6) (ix2 k ⟨j.val / 128 * 256 + (128 + j.val % 128), by omega⟩) := by
  simp only [V]
  after_reads_simp
  pointwise []

/-- The shared key's part of the input weight, laid out twice: each entry is an entry of the argument. -/
theorem V12 (c : Dev nD) (k : Fin 2048) (j : Fin 128) : V m c main_v12 (ix2 k j) = m ((c : Thread nD τ).loc main_arg2) (ix2 k ⟨1024 + j.val % 64, by omega⟩) := by
  simp only [V]
  after_reads_simp
  pointwise []
  after_reads_simp
  pointwise []
  have e : ∀ {a b : ℕ} (ha : a < 3136) (hb : b < 3136), a = b → m ((c : Thread nD τ).loc main_arg2) (ix2 k ⟨a, ha⟩) = m ((c : Thread nD τ).loc main_arg2) (ix2 k ⟨b, hb⟩) := fun _ _ h => by subst h; rfl
  by_cases h1 : j.val < 64
  · rw [dif_pos h1]
    exact e _ _ (by omega)
  · rw [dif_neg h1]
    exact e _ _ (by omega)

/-- The cosines, laid out four times along the lanes: each entry is an entry of the argument. -/
theorem V0 (c : Dev nD) (k : Fin 8192) (j : Fin 128) : V m c main_v0 (ix2 k j) = m ((c : Thread nD τ).loc main_arg7) (ix2 k ⟨j.val % 32, by omega⟩) := by
  simp only [V]
  after_reads_simp
  pointwise []
  split_ifs <;> exact congrArg (fun z => m ((c : Thread nD τ).loc main_arg7) (ix2 k z)) (Fin.ext (by first | (dsimp only; omega) | dsimp only))

/-- The scale of the first norm as a row: each entry is an entry of the argument. -/
theorem V29 (c : Dev nD) (k : Fin 2048) : V m c main_v29 (ix2 0 k) = m ((c : Thread nD τ).loc main_arg1) (ix1 k) := by
  simp only [V]
  after_reads_simp
  pointwise []

/-- The scale of the queries' norm as a row: each entry is an entry of the argument. -/
theorem V15 (c : Dev nD) (k : Fin 512) : V m c main_v15 (ix2 0 k) = m ((c : Thread nD τ).loc main_arg3) (ix1 k) := by
  simp only [V]
  after_reads_simp
  pointwise []

/-- The scale of the keys' and values' norm as a row: each entry is an entry of the argument. -/
theorem V16 (c : Dev nD) (k : Fin 512) : V m c main_v16 (ix2 0 k) = m ((c : Thread nD τ).loc main_arg5) (ix1 k) := by
  simp only [V]
  after_reads_simp
  pointwise []

/-- The table of sines as the host lays it out. -/
def SIN (S : FVec Ideal S8192x32 .f32) : FVec Ideal S8192x128 .f32 :=
  concatenate S8192x128 1 [⟨S8192x32, (Host.negf S : FVec Ideal S8192x32 .f32)⟩, ⟨S8192x32, S⟩, ⟨S8192x32, (Host.negf S : FVec Ideal S8192x32 .f32)⟩, ⟨S8192x32, S⟩] concatenates_S8192x32_S8192x32_S8192x32_S8192x32_S8192x128_d1

/-- The table of sines, its sign taken in. -/
theorem tab3 (S : FVec Ideal S8192x32 .f32) (k : Fin 8192) (j : Fin 128) :
    SIN S (ix2 k j) = if j.val % 64 < 32 then - S (ix2 k ⟨j.val % 32, by omega⟩) else S (ix2 k ⟨j.val % 32, by omega⟩) := by
  pointwise [SIN]
  have e : ∀ {a b : ℕ} (ha : a < 32) (hb : b < 32), a = b → S (ix2 k ⟨a, ha⟩) = S (ix2 k ⟨b, hb⟩) := fun _ _ h => by subst h; rfl
  by_cases h1 : j.val < 32
  · rw [dif_pos h1, if_pos (by omega : j.val % 64 < 32)]
    exact congrArg Neg.neg (e _ _ (by omega))
  · rw [dif_neg h1]
    by_cases h2 : j.val - 32 < 32
    · rw [dif_pos h2, if_neg (by omega : ¬ j.val % 64 < 32)]
      exact e _ _ (by omega)
    · rw [dif_neg h2]
      by_cases h3 : j.val - 32 - 32 < 32
      · rw [dif_pos h3, if_pos (by omega : j.val % 64 < 32)]
        exact congrArg Neg.neg (e _ _ (by omega))
      · rw [dif_neg h3, if_neg (by omega : ¬ j.val % 64 < 32)]
        exact e _ _ (by omega)

set_option maxHeartbeats 1600000 in
/-- The host's table of sines. -/
theorem V3 (c : Dev nD) : V m c main_v3 = SIN (m ((c : Thread nD τ).loc main_arg8)) := by
  simp only [V]
  after_reads_simp
  rfl

/-- A block of window 1, read at an index. -/
theorem b1 (c : Dev nD) (t : Fin cfg0.N) (q : Fin 1) (j : Fin 2048) : iblk m c 1 t (ix2 q j) = V m c main_v29 (ix2 q j) := by
  blk_point [iblk, idx t, rw_]

/-- A block of window 2, read at an index. -/
theorem b2 (c : Dev nD) (t : Fin cfg0.N) (q : Fin 2048) (j : Fin 512) : iblk m c 2 t (ix2 q j) = V m c main_v8 (ix2 q j) := by
  blk_point [iblk, idx t, rw_]

/-- A block of window 3, read at an index. -/
theorem b3 (c : Dev nD) (t : Fin cfg0.N) (q : Fin 2048) (j : Fin 512) : iblk m c 3 t (ix2 q j) = V m c main_v10 (ix2 q j) := by
  blk_point [iblk, idx t, rw_]

/-- A block of window 4, read at an index. -/
theorem b4 (c : Dev nD) (t : Fin cfg0.N) (q : Fin 2048) (j : Fin 2048) : iblk m c 4 t (ix2 q j) = V m c main_v14 (ix2 q j) := by
  blk_point [iblk, idx t, rw_]

/-- A block of window 5, read at an index. -/
theorem b5 (c : Dev nD) (t : Fin cfg0.N) (q : Fin 2048) (j : Fin 128) : iblk m c 5 t (ix2 q j) = V m c main_v12 (ix2 q j) := by
  blk_point [iblk, idx t, rw_]

/-- A block of window 6, read at an index. -/
theorem b6 (c : Dev nD) (t : Fin cfg0.N) (q : Fin 1) (j : Fin 512) : iblk m c 6 t (ix2 q j) = V m c main_v15 (ix2 q j) := by
  blk_point [iblk, idx t, rw_]

/-- A block of window 7, read at an index. -/
theorem b7 (c : Dev nD) (t : Fin cfg0.N) (q : Fin 1) (j : Fin 512) : iblk m c 7 t (ix2 q j) = V m c main_v16 (ix2 q j) := by
  blk_point [iblk, idx t, rw_]

/-- A block of window 8, read at an index. -/
theorem b8 (c : Dev nD) (t : Fin cfg0.N) (q : Fin 512) (j : Fin 2048) : iblk m c 8 t (ix2 q j) = V m c main_v19 (ix2 q j) := by
  blk_point [iblk, idx t, rw_]

/-- A block of window 9, read at an index. -/
theorem b9 (c : Dev nD) (t : Fin cfg0.N) (q : Fin 512) (j : Fin 1024) : iblk m c 9 t (ix2 q j) = V m c main_v22 (ix2 q j) := by
  blk_point [iblk, idx t, rw_]

/-- A block of window 10, read at an index. -/
theorem b10 (c : Dev nD) (t : Fin cfg0.N) (q : Fin 512) (j : Fin 2048) : iblk m c 10 t (ix2 q j) = V m c main_v25 (ix2 q j) := by
  blk_point [iblk, idx t, rw_]

/-- A block of window 11, read at an index. -/
theorem b11 (c : Dev nD) (t : Fin cfg0.N) (q : Fin 512) (j : Fin 2048) : iblk m c 11 t (ix2 q j) = V m c main_v28 (ix2 q j) := by
  blk_point [iblk, idx t, rw_]

/-- A block of window 12, read at an index. -/
theorem b12 (c : Dev nD) (t : Fin cfg0.N) (q : Fin 256) (j : Fin 128) : iblk m c 12 t (ix2 q j) = V m c main_v0 (ix2 (rw_ t q) j) := by
  blk_point [iblk, idx t, rw_]

/-- A block of window 13, read at an index. -/
theorem b13 (c : Dev nD) (t : Fin cfg0.N) (q : Fin 256) (j : Fin 128) : iblk m c 13 t (ix2 q j) = V m c main_v3 (ix2 (rw_ t q) j) := by
  blk_point [iblk, idx t, rw_]

/-- The position of a block of window 14 in its array. -/
theorem e14 (X : FVec Ideal ⟨2, ![8192, 2048]⟩ .bf16) (t : Fin cfg0.N) (q : Fin 256) (j : Fin 2048) : X (((cfg0.win 14).blk t).view.emb (ix2 q j)) = X (ix2 (rw_ t q) j) := by
  blk_point [idx t, rw_]

/-- The position of a block of window 15 in its array. -/
theorem e15 (X : FVec Ideal ⟨2, ![8192, 1024]⟩ .bf16) (t : Fin cfg0.N) (q : Fin 256) (j : Fin 1024) : X (((cfg0.win 15).blk t).view.emb (ix2 q j)) = X (ix2 (rw_ t q) j) := by
  blk_point [idx t, rw_]

/-- The position of a block of window 16 in its array. -/
theorem e16 (X : FVec Ideal ⟨2, ![8192, 2048]⟩ .bf16) (t : Fin cfg0.N) (q : Fin 256) (j : Fin 2048) : X (((cfg0.win 16).blk t).view.emb (ix2 q j)) = X (ix2 (rw_ t q) j) := by
  blk_point [idx t, rw_]

/-- The position of a block of window 17 in its array. -/
theorem e17 (X : FVec Ideal ⟨2, ![8192, 2048]⟩ .bf16) (t : Fin cfg0.N) (q : Fin 256) (j : Fin 2048) : X (((cfg0.win 17).blk t).view.emb (ix2 q j)) = X (ix2 (rw_ t q) j) := by
  blk_point [idx t, rw_]

/-- The position of a block of window 18 in its array. -/
theorem e18 (X : FVec Ideal ⟨2, ![8192, 256]⟩ .bf16) (t : Fin cfg0.N) (q : Fin 256) (j : Fin 256) : X (((cfg0.win 18).blk t).view.emb (ix2 q j)) = X (ix2 (rw_ t q) j) := by
  blk_point [idx t, rw_]

/-- The position of a block of window 19 in its array. -/
theorem e19 (X : FVec Ideal ⟨2, ![8192, 2048]⟩ .bf16) (t : Fin cfg0.N) (q : Fin 256) (j : Fin 2048) : X (((cfg0.win 19).blk t).view.emb (ix2 q j)) = X (ix2 (rw_ t q) j) := by
  blk_point [idx t, rw_]

end Cert.MlaInValue
-- ==== Proof.MlaInValue.lean ====
/- The latent-attention layer's projections before its attention: each of the kernel's six result arrays is the reference's. -/
module

public import proofs.«01_k».proof.Proof.Gen.MlaInIdeal.Value
public import proofs.«01_k».proof.Proof.MlaInPure
public import proofs.«01_k».proof.Proof.MlaInOps
public import Idealize.ShloMosaic.Lib.Claim
public import Idealize.ShloMosaic.Lib.Pointwise
public import Idealize.ShloMosaic.Lib.Pipeline.ValueKit

@[expose] public section

set_option maxRecDepth 16384

noncomputable section

namespace Cert.MlaInValue
open Cert.MlaInIdeal Cert.MlaInIdeal.Gen Idealize.ShloMosaic Idealize.ShloMosaic.TcCoe Idealize.SL.Sem Cert.MlaInPure
open Idealize.ShloMosaic.Pipeline (Dat)

section
variable (x0 : FVec Ideal S256x2048 .f32) (x1 : FVec Ideal S1x2048 .f32) (x2 : FVec Ideal S2048x512 .bf16) (x3 : FVec Ideal S2048x512 .bf16) (x4 : FVec Ideal S2048x2048 .bf16) (x5 : FVec Ideal S2048x128 .bf16) (x6 : FVec Ideal S1x512 .f32) (x7 : FVec Ideal S1x512 .f32) (x8 : FVec Ideal S512x2048 .bf16) (x9 : FVec Ideal S512x1024 .bf16) (x10 : FVec Ideal S512x2048 .bf16) (x11 : FVec Ideal S512x2048 .bf16) (x12 : FVec Ideal S256x128 .f32) (x13 : FVec Ideal S256x128 .f32)

/-- The normed rows, from whole blocks. -/
theorem p18 : k0_pay18 (F := Ideal) x0 x1 x2 x3 x4 x5 x6 x7 x8 x9 x10 x11 x12 x13 = k0_pay1 (F := Ideal) x0 x1 := by
  unfold k0_pay18
  congr 1 <;> (funext i; idx_vars i; pointwise []) <;> rw [Subsingleton.elim i0 0]
/-- The cosines, from the whole block. -/
theorem p19 : k0_pay19 (F := Ideal) x0 x1 x2 x3 x4 x5 x6 x7 x8 x9 x10 x11 x12 x13 = x12 := by
  unfold k0_pay19
  funext i; idx_vars i; pointwise [k0_pay2]
/-- The sines, from the whole block. -/
theorem p20 : k0_pay20 (F := Ideal) x0 x1 x2 x3 x4 x5 x6 x7 x8 x9 x10 x11 x12 x13 = x13 := by
  unfold k0_pay20
  funext i; idx_vars i; pointwise [k0_pay3]
/-- The queries' latent rows, from whole blocks. -/
theorem p21 : k0_pay21 (F := Ideal) x0 x1 x2 x3 x4 x5 x6 x7 x8 x9 x10 x11 x12 x13 = k0_pay4 (F := Ideal) x0 x1 x2 x6 := by
  unfold k0_pay21
  congr 1 <;> (funext i; idx_vars i; pointwise []) <;> rw [Subsingleton.elim i0 0]
/-- The shared key before its rotation, from whole blocks. -/
theorem p22 : k0_pay22 (F := Ideal) x0 x1 x2 x3 x4 x5 x6 x7 x8 x9 x10 x11 x12 x13 = k0_pay10 (F := Ideal) (k0_pay1 (F := Ideal) x0 x1) x5 := by
  unfold k0_pay22
  rw [p18]
  congr 1
  funext i; idx_vars i; pointwise []
/-- The shared key, rolled one way. -/
theorem p23 : k0_pay23 (F := Ideal) x0 x1 x2 x3 x4 x5 x6 x7 x8 x9 x10 x11 x12 x13 = k0_pay11 (F := Ideal) (k0_pay1 (F := Ideal) x0 x1) x5 := by
  unfold k0_pay23
  rw [p18]
  congr 1
  funext i; idx_vars i; pointwise []
/-- The shared key, rolled the other way. -/
theorem p24 : k0_pay24 (F := Ideal) x0 x1 x2 x3 x4 x5 x6 x7 x8 x9 x10 x11 x12 x13 = k0_pay12 (F := Ideal) (k0_pay1 (F := Ideal) x0 x1) x5 := by
  unfold k0_pay24
  rw [p18]
  congr 1
  funext i; idx_vars i; pointwise []
end

variable (m : (ℓ : Loc nD τ sig) → Buf (Elt Ideal) ℓ)

/-- The normed rows of block `t`. -/
theorem hB (c : Dev nD) (t : Fin cfg0.N) (q : Fin 256) (k : Fin 2048) : k0_pay1 (F := Ideal) (iblk m c 0 t) (iblk m c 1 t) (ix2 q k)
    = Cert.MlaInRefIdeal.Read.val_main_v12 (F := Ideal) (m ((c : Thread nD τ).loc main_arg0)) (m ((c : Thread nD τ).loc main_arg1)) (ix2 (rw_ t q) k) :=
  h_at _ _ (rw_ t) (b0 m c t) (fun k => (b1 m c t 0 k).trans (V29 m c k)) q k

/-- The queries' latent rows of block `t`. -/
theorem cqB (c : Dev nD) (t : Fin cfg0.N) (q : Fin 256) (j : Fin 512) : k0_pay4 (F := Ideal) (iblk m c 0 t) (iblk m c 1 t) (iblk m c 2 t) (iblk m c 6 t) (ix2 q j)
    = Cert.MlaInRefIdeal.Read.val_main_v30 (F := Ideal) (m ((c : Thread nD τ).loc main_arg0)) (m ((c : Thread nD τ).loc main_arg1)) (m ((c : Thread nD τ).loc main_arg2)) (m ((c : Thread nD τ).loc main_arg3)) (ix2 (rw_ t q) j) :=
  cq_at _ _ _ _ (rw_ t) (b0 m c t) (fun k => (b1 m c t 0 k).trans (V29 m c k)) (fun k j => (b2 m c t k j).trans (V8 m c k j)) (fun k => (b6 m c t 0 k).trans (V15 m c k)) q j

/-- The keys' and values' latent rows of block `t`. -/
theorem ckvB (c : Dev nD) (t : Fin cfg0.N) (q : Fin 256) (j : Fin 512) : k0_pay7 (F := Ideal) (k0_pay1 (F := Ideal) (iblk m c 0 t) (iblk m c 1 t)) (iblk m c 3 t) (iblk m c 7 t) (ix2 q j)
    = Cert.MlaInRefIdeal.Read.val_main_v67 (F := Ideal) (m ((c : Thread nD τ).loc main_arg0)) (m ((c : Thread nD τ).loc main_arg1)) (m ((c : Thread nD τ).loc main_arg2)) (m ((c : Thread nD τ).loc main_arg5)) (ix2 (rw_ t q) j) :=
  ckv_at _ _ _ _ (rw_ t) (hB m c t) (fun k j => (b3 m c t k j).trans (V10 m c k j)) (fun k => (b7 m c t 0 k).trans (V16 m c k)) q j

/-- The cosines of block `t`. -/
theorem cosB (c : Dev nD) (t : Fin cfg0.N) (q : Fin 256) (j : Fin 128) : iblk m c 12 t (ix2 q j) = m ((c : Thread nD τ).loc main_arg7) (ix2 (rw_ t q) ⟨j.val % 32, by omega⟩) :=
  (b12 m c t q j).trans (V0 m c _ j)

/-- The sines of block `t`. -/
theorem sinB (c : Dev nD) (t : Fin cfg0.N) (S : FVec Ideal S8192x32 .f32) (hS : S = m ((c : Thread nD τ).loc main_arg8)) (q : Fin 256) (j : Fin 128) :
    (iblk m c 13 t : FVec Ideal S256x128 .f32) (ix2 q j) = if j.val % 64 < 32 then - S (ix2 (rw_ t q) ⟨j.val % 32, by omega⟩) else S (ix2 (rw_ t q) ⟨j.val % 32, by omega⟩) := by
  subst hS
  exact (b13 m c t q j).trans ((congrFun (V3 m c) _).trans (tab3 _ _ j))

/-- After the last grid point, the position-free queries: the result array is the reference's value of the arguments. -/
theorem final14 (c : Dev nD) :
    (dats m 0 c).arrAt 14 (cfgs 0).N = Cert.MlaInRefIdeal.Read.val_main_v88 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 14 _ (by decide +kernel) fun t _ y => ?_
  blk_simp
  rw [after0_14]
  frame_out
  idx_vars y
  refine Eq.trans ?_ (e14 _ t y0 y1).symm
  rw [p21]
  exact qn_at _ _ _ _ _ (rw_ t) (cqB m c t) (fun k j => (b8 m c t k j).trans (V19 m c k j)) y0 y1

/-- After the last grid point, the rotated queries: the result array is the reference's value of the arguments. -/
theorem final15 (c : Dev nD) :
    (dats m 0 c).arrAt 15 (cfgs 0).N = Cert.MlaInRefIdeal.Read.val_main_v90 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) := by
  refine (dats m 0 c).arrAt_eq_of_covers 15 _ (by decide +kernel) fun t _ y => ?_
  blk_simp
  rw [after0_15]
  frame_out
  idx_vars y
  refine Eq.trans ?_ (e15 _ t y0 y1).symm
  rw [p19, p20, p21]
  exact qr_at _ _ _ _ _ _ _ (rw_ t) (cqB m c t) (fun k j => (b9 m c t k j).trans (V22 m c k j)) (cosB m c t) (sinB m c t _ rfl) y0 y1

/-- After the last grid point, the position-free keys: the result array is the reference's value of the arguments. -/
theorem final16 (c : Dev nD) :
    (dats m 0 c).arrAt 16 (cfgs 0).N = Cert.MlaInRefIdeal.Read.val_main_v92 (F := Ideal) (m ((c : Thread nD τ).loc main_arg0)) (m ((c : Thread nD τ).loc main_arg1)) (m ((c : Thread nD τ).loc main_arg2)) (m ((c : Thread nD τ).loc main_arg5)) (m ((c : Thread nD τ).loc main_arg6)) := by
  refine (dats m 0 c).arrAt_eq_of_covers 16 _ (by decide +kernel) fun t _ y => ?_
  blk_simp
  rw [after0_16]
  frame_out
  idx_vars y
  refine Eq.trans ?_ (e16 _ t y0 y1).symm
  rw [p18]
  exact kn_at _ _ _ _ _ (rw_ t) (ckvB m c t) (fun k j => (b10 m c t k j).trans (V25 m c k j)) y0 y1

/-- After the last grid point, the values: the result array is the reference's value of the arguments. -/
theorem final17 (c : Dev nD) :
    (dats m 0 c).arrAt 17 (cfgs 0).N = Cert.MlaInRefIdeal.Read.val_main_v94 (F := Ideal) (m ((c : Thread nD τ).loc main_arg0)) (m ((c : Thread nD τ).loc main_arg1)) (m ((c : Thread nD τ).loc main_arg2)) (m ((c : Thread nD τ).loc main_arg5)) (m ((c : Thread nD τ).loc main_arg6)) := by
  refine (dats m 0 c).arrAt_eq_of_covers 17 _ (by decide +kernel) fun t _ y => ?_
  blk_simp
  rw [after0_17]
  frame_out
  idx_vars y
  refine Eq.trans ?_ (e17 _ t y0 y1).symm
  rw [p18]
  exact v_at _ _ _ _ _ (rw_ t) (ckvB m c t) (fun k j => (b11 m c t k j).trans (V28 m c k j)) y0 y1

/-- After the last grid point, the gate: the result array is the reference's value of the arguments. -/
theorem final19 (c : Dev nD) :
    (dats m 0 c).arrAt 19 (cfgs 0).N = Cert.MlaInRefIdeal.Read.val_main_v98 (F := Ideal) (m ((c : Thread nD τ).loc main_arg0)) (m ((c : Thread nD τ).loc main_arg1)) (m ((c : Thread nD τ).loc main_arg2)) := by
  refine (dats m 0 c).arrAt_eq_of_covers 19 _ (by decide +kernel) fun t _ y => ?_
  blk_simp
  rw [after0_19]
  frame_out
  idx_vars y
  refine Eq.trans ?_ (e19 _ t y0 y1).symm
  rw [p18]
  exact g_at _ _ _ (rw_ t) (hB m c t) (fun k j => (b4 m c t k j).trans (V14 m c k j)) y0 y1

/-- After the last grid point, the rotated shared keys: the result array is the reference's value of the arguments. -/
theorem final18 (c : Dev nD) :
    (dats m 0 c).arrAt 18 (cfgs 0).N = Cert.MlaInRefIdeal.Read.val_main_v96 (F := Ideal) (m ((c : Thread nD τ).loc main_arg0)) (m ((c : Thread nD τ).loc main_arg1)) (m ((c : Thread nD τ).loc main_arg2)) (m ((c : Thread nD τ).loc main_arg7)) (m ((c : Thread nD τ).loc main_arg8)) := by
  refine (dats m 0 c).arrAt_eq_of_covers 18 _ (by decide +kernel) fun t _ y => ?_
  blk_simp
  rw [after0_18]
  idx_vars y
  refine Eq.trans ?_ (e18 _ t y0 y1).symm
  unfold out0_18
  canon_tiles x h
  · obtain rfl : y0 = x 0 := Fin.ext h0
    rw [show y1 = (⟨128 + (x 1).val, by omega⟩ : Fin 256) from Fin.ext h1, p19, p20, p22, p23, p24]
    exact (congrArg _ (eq_ix2 x)).trans (krp1 _ _ _ _ _ (rw_ t) (rope_at _ _ _ _ _ (rw_ t) (hB m c t) (fun k j => (b5 m c t k j).trans (V12 m c k j)) (cosB m c t) (sinB m c t _ rfl)) (x 0) (x 1))
  · obtain rfl : y0 = x 0 := Fin.ext h0
    rw [show y1 = (⟨(x 1).val, by omega⟩ : Fin 256) from Fin.ext h1, p19, p20, p22, p23, p24]
    exact (congrArg _ (eq_ix2 x)).trans (krp0 _ _ _ _ _ (rw_ t) (rope_at _ _ _ _ _ (rw_ t) (hB m c t) (fun k j => (b5 m c t k j).trans (V12 m c k j)) (cosB m c t) (sinB m c t _ rfl)) (x 0) (x 1))

end Cert.MlaInValue
-- ==== Proof.MlaInClaim.lean ====
/- The latent-attention layer's projections before its attention: the value claim of the call. -/
module

public import proofs.«01_k».proof.Defs
public import proofs.«01_k».proof.Proof.Gen.MlaInIdeal.Frame
public import proofs.«01_k».proof.Proof.Gen.MlaInRefIdeal.Run
public import proofs.«01_k».proof.Proof.MlaInValue
public import Idealize.ShloMosaic.Lib.Claim
public import Idealize.ShloMosaic.Adequacy
public import Idealize.ShloMosaic.Init

@[expose] public section

set_option maxRecDepth 16384

noncomputable section

namespace Cert.MlaInValue

open Idealize.ShloMosaic Idealize.SL.Sem

set_option maxHeartbeats 2000000 in
/-- From memories whose arguments agree, the kernel of the latent-attention layer's projections and its reference both end, with equal result arrays and
    their arguments as they were. -/
theorem algebraic : Cert.algebraic_MlaInIdeal_MlaInRefIdeal (hMlaInIdeal := Cert.MlaInIdeal.Gen.facts) (hMlaInRefIdeal := Cert.MlaInRefIdeal.Gen.facts) := by
  pair_intro
  · run_from Cert.MlaInIdeal.Gen.run_main m g
    · exact hc.1 16
    · exact hc.1 17
    · exact hc.1 18
    · exact hc.1 19
  · run_from Cert.MlaInRefIdeal.Value.run m' g'
    · rw [Cert.MlaInValue.final14 m c]
      exact Cert.MlaInRefIdeal.Read.val_main_v88_eq _ _ _ _ _
    · rw [Cert.MlaInValue.final15 m c, Cert.MlaInRefIdeal.Read.val_main_v90_eq, (hagree c).1, (hagree c).2.1, (hagree c).2.2.1, (hagree c).2.2.2.1, (hagree c).2.2.2.2.1, (hagree c).2.2.2.2.2.2.2.1, (hagree c).2.2.2.2.2.2.2.2]
    · rw [Cert.MlaInValue.final16 m c]
      exact Cert.MlaInRefIdeal.Read.val_main_v92_eq _ _ _ _ _
    · rw [Cert.MlaInValue.final17 m c]
      exact Cert.MlaInRefIdeal.Read.val_main_v94_eq _ _ _ _ _
    · rw [Cert.MlaInValue.final18 m c, Cert.MlaInRefIdeal.Read.val_main_v96_eq, (hagree c).1, (hagree c).2.1, (hagree c).2.2.1, (hagree c).2.2.2.2.2.2.2.1, (hagree c).2.2.2.2.2.2.2.2]
    · rw [Cert.MlaInValue.final19 m c]
      exact Cert.MlaInRefIdeal.Read.val_main_v98_eq _ _ _

end Cert.MlaInValue
-- ==== Proof.SwaInPure.lean ====
/- The sliding-window layer's projections before its attention: each value the kernel computes from a block of rows is the reference's, over any blocks that hold the arguments' entries. -/
module

public import proofs.«01_k».proof.Proof.Gen.SwaInIdeal.Value
public import proofs.«01_k».proof.Proof.Gen.SwaInRefIdeal.Read
public import Idealize.ShloMosaic.Lib.Claim
public import Idealize.ShloMosaic.Lib.Pointwise
public import Idealize.ShloMosaic.Lib.Pipeline.ValueKit

@[expose] public section

set_option maxRecDepth 16384

noncomputable section

namespace Cert.SwaInPure

open Cert.SwaInIdeal Cert.SwaInIdeal.Gen Idealize.ShloMosaic Idealize.ShloMosaic.TcCoe Idealize.SL.Sem

variable (X : FVec Ideal S8192x2048 .f32) (LN : FVec Ideal S2048 .f32) (W : FVec Ideal S2048x4608 .f32) (C S : FVec Ideal S8192x8 .f32)
variable (R : Fin 256 → Fin 8192)

/-- The normed rows of a block are the reference's. -/
theorem h_at {x0 : FVec Ideal S256x2048 .f32} {x1 : FVec Ideal S1x2048 .f32} (h0 : ∀ q k, x0 (ix2 q k) = X (ix2 (R q) k)) (h1 : ∀ k, x1 (ix2 0 k) = LN (ix1 k)) (q : Fin 256) (k : Fin 2048) :
    k0_pay1 (F := Ideal) x0 x1 (ix2 q k) = Cert.SwaInRefIdeal.Read.val_main_v12 (F := Ideal) X LN (ix2 (R q) k) := by
  pointwise [k0_pay1, Cert.SwaInRefIdeal.Read.val_main_v0, Cert.SwaInRefIdeal.Read.val_main_v1, Cert.SwaInRefIdeal.Read.val_main_v2, Cert.SwaInRefIdeal.Read.val_main_v3, Cert.SwaInRefIdeal.Read.val_main_v4, Cert.SwaInRefIdeal.Read.val_main_v5, Cert.SwaInRefIdeal.Read.val_main_v6, Cert.SwaInRefIdeal.Read.val_main_v7, Cert.SwaInRefIdeal.Read.val_main_v8, Cert.SwaInRefIdeal.Read.val_main_v9, Cert.SwaInRefIdeal.Read.val_main_v10, Cert.SwaInRefIdeal.Read.val_main_v11, Cert.SwaInRefIdeal.Read.val_main_v12, Cert.SwaInRefIdeal.Read.val_main_cst, Cert.SwaInRefIdeal.Read.val_main_cst_0, Cert.SwaInRefIdeal.Read.val_main_cst_1, h0, h1]

/-- The gate. -/
theorem g_at {h : FVec Ideal S256x2048 .bf16} {x5 : FVec Ideal S2048x2048 .bf16} (hh : ∀ q k, h (ix2 q k) = Cert.SwaInRefIdeal.Read.val_main_v12 (F := Ideal) X LN (ix2 (R q) k))
    (h5 : ∀ k (j : Fin 2048), x5 (ix2 k j) = W (ix2 k ⟨2560 + j.val, by omega⟩)) (q : Fin 256) (j : Fin 2048) :
    k0_pay8 h x5 (ix2 q j) = Cert.SwaInRefIdeal.Read.val_main_v64 (F := Ideal) X LN W (ix2 (R q) j) := by
  pointwise [k0_pay8, Cert.SwaInRefIdeal.Read.val_main_v13, Cert.SwaInRefIdeal.Read.val_main_v17, Cert.SwaInRefIdeal.Read.val_main_v63, Cert.SwaInRefIdeal.Read.val_main_v64, Cert.SwaInRefIdeal.Read.val_main_call0_v5, Cert.SwaInRefIdeal.Read.val_main_call0_v4, Cert.SwaInRefIdeal.Read.val_main_call0_v3, Cert.SwaInRefIdeal.Read.val_main_call0_v2, Cert.SwaInRefIdeal.Read.val_main_call0_v1, Cert.SwaInRefIdeal.Read.val_main_call0_v0, Cert.SwaInRefIdeal.Read.val_main_call0_cst, Cert.SwaInRefIdeal.Read.val_main_call0_cst_0, hh, h5]
  rfl

/-- A read at an equal lane. -/
theorem at_lane {n : ℕ} (f : FVec Ideal ⟨2, ![256, n]⟩ .f32) (q : Fin 256) {a b : ℕ} (ha : a < n) (hb : b < n) (h : a = b) : f (ix2 q ⟨a, ha⟩) = f (ix2 q ⟨b, hb⟩) := by
  subst h; rfl

/-- Copies of one block of 128 lanes, side by side, are read at the lane's place in its 128. -/
theorem rep_at {N : ℕ} (f : FVec Ideal S256x128 .f32) : ∀ (n : ℕ) (j : (⟨2, ![256, N]⟩ : Shape).Idx) (hs : ∀ s ∈ List.map (fun x => x.fst) (List.replicate (n + 1) (⟨S256x128, f⟩ : (s : Shape) × (s.Idx → EReal))), s.FitsOff ⟨2, ![256, N]⟩ 1) (c : ℕ) (hc : c < (axisSizes ⟨2, ![256, N]⟩ 1 (List.replicate (n + 1) (⟨S256x128, f⟩ : (s : Shape) × (s.Idx → EReal)))).sum),
    concatenateAt ⟨2, ![256, N]⟩ 1 j (List.replicate (n + 1) (⟨S256x128, f⟩ : (s : Shape) × (s.Idx → EReal))) hs c hc = f (ix2 (j 0) ⟨c % 128, by omega⟩)
  | 0, j, hs, c, hc => by
    have hc' : c < 128 := hc
    refine (concatenateAt_singleton 1 j f hs c hc).trans (congrArg f ?_)
    rw [eq_ix2 (Shape.Idx.norm _)]
    have e : c % 128 = c := Nat.mod_eq_of_lt hc'
    simp only [e]
    rfl
  | n + 1, j, hs, c, hc => by
    refine (concatenateAt_cons 1 j f ⟨S256x128, f⟩ (List.replicate n ⟨S256x128, f⟩) hs c hc).trans ?_
    by_cases h : c < 128
    · refine (dif_pos h).trans (congrArg f ?_)
      rw [eq_ix2 (Shape.Idx.norm _)]
      have e : c % 128 = c := Nat.mod_eq_of_lt h
      simp only [e]
      rfl
    · refine (dif_neg h).trans ((rep_at f n j _ (c - 128) _).trans ?_)
      have e : (c - 128) % 128 = c % 128 := by omega
      simp only [e]

/-- A table of 128 lanes laid out sixteen times. -/
def T16 (f : FVec Ideal S256x128 .f32) : FVec Ideal S256x2048 .f32 :=
  concatenate S256x2048 1 [⟨S256x128, f⟩, ⟨S256x128, f⟩, ⟨S256x128, f⟩, ⟨S256x128, f⟩, ⟨S256x128, f⟩, ⟨S256x128, f⟩, ⟨S256x128, f⟩, ⟨S256x128, f⟩, ⟨S256x128, f⟩, ⟨S256x128, f⟩, ⟨S256x128, f⟩, ⟨S256x128, f⟩, ⟨S256x128, f⟩, ⟨S256x128, f⟩, ⟨S256x128, f⟩, ⟨S256x128, f⟩] concatenates_S256x128_S256x128_S256x128_S256x128_S256x128_S256x128_S256x128_S256x128_S256x128_S256x128_S256x128_S256x128_S256x128_S256x128_S256x128_S256x128_S256x2048_d1

/-- A table of 128 lanes laid out twice. -/
def T2 (f : FVec Ideal S256x128 .f32) : FVec Ideal S256x256 .f32 :=
  concatenate S256x256 1 [⟨S256x128, f⟩, ⟨S256x128, f⟩] concatenates_S256x128_S256x128_S256x256_d1

/-- A table laid out sixteen times is read at the lane's place in its 128. -/
theorem T16_at (f : FVec Ideal S256x128 .f32) (q : Fin 256) (j : Fin 2048) : T16 f (ix2 q j) = f (ix2 q ⟨j.val % 128, by omega⟩) := by
  unfold T16
  rw [concatenate_apply]
  exact rep_at f 15 (ix2 q j) _ j.val _

/-- A table laid out twice is read at the lane's place in its 128. -/
theorem T2_at (f : FVec Ideal S256x128 .f32) (q : Fin 256) (j : Fin 256) : T2 f (ix2 q j) = f (ix2 q ⟨j.val % 128, by omega⟩) := by
  unfold T2
  rw [concatenate_apply]
  exact rep_at f 1 (ix2 q j) _ j.val _

/-- The keys of a block after their rotation, before each head is laid out twice. -/
def KR (v15 : FVec Ideal S256x2048 .bf16) (v17 v19 v21 : FVec Ideal S256x128 .f32) (v39 : FVec Ideal S2048x256 .bf16) : FVec Ideal S256x256 .f32 :=
  have v40 := shapeCast S2048x256 v39 shapeCasts_S2048x256_S2048x256
  have cst_19 := constant S256x256 FTy.f32 0#32
  have v41 := matmul dot_S256x2048_S2048x256_S256x256_1_0_0_1_n_n none v15 v40 cst_19
  have v42 := dynamicRotate 1 (248#32) none v41 rotates_S256x256_d1
  have v43 := dynamicRotate 1 (8#32) none v41 rotates_S256x256_d1
  have v44 := T2 v17
  have v45 := mulf v41 v44
  have v46 := T2 v19
  have v47 := mulf v42 v46
  have v48 := addf v45 v47
  have v49 := T2 v21
  have v50 := mulf v43 v49
  addf v48 v50

/-- The queries of a block, rotated and scaled. -/
def QR (v15 : FVec Ideal S256x2048 .bf16) (v17 v19 v21 : FVec Ideal S256x128 .f32) (v22 : FVec Ideal S2048x2048 .bf16) : FVec Ideal S256x2048 .bf16 :=
  have v23 := shapeCast S2048x2048 v22 shapeCasts_S2048x2048_S2048x2048
  have cst_13 := constant S256x2048 FTy.f32 0#32
  have v24 := matmul dot_S256x2048_S2048x2048_S256x2048_1_0_0_1_n_n none v15 v23 cst_13
  have v25 := dynamicRotate 1 (2040#32) none v24 rotates_S256x2048_d1
  have v26 := dynamicRotate 1 (8#32) none v24 rotates_S256x2048_d1
  have v28 := mulf v24 (T16 v17)
  have v30 := mulf v25 (T16 v19)
  have v31 := addf v28 v30
  have v33 := mulf v26 (T16 v21)
  have v34 := addf v31 v33
  have cst_14 := FloatOps.ofBits FTy.f32 1040187392#32
  have v35 := broadcast S256x2048 cst_14
  have v36 := mulf v34 v35
  truncf FTy.bf16 v36 bitsLt_bf16_f32

/-- The queries a block stores, by their tables. -/
theorem pay5_eq (v0 : FVec Ideal S256x2048 .f32) (v1 : FVec Ideal S1x2048 .f32) (v16 v18 v20 : FVec Ideal S256x128 .f32) (v22 : FVec Ideal S2048x2048 .bf16) :
    k0_pay5 (F := Ideal) v0 v1 v16 v18 v20 v22 = QR (k0_pay1 (F := Ideal) v0 v1) (k0_pay2 (F := Ideal) v16) (k0_pay3 (F := Ideal) v18) (k0_pay4 (F := Ideal) v20) v22 := rfl

/-- The values of a block, before each head is laid out twice. -/
def VV (v15 : FVec Ideal S256x2048 .bf16) (v59 : FVec Ideal S2048x256 .bf16) : FVec Ideal S256x256 .f32 :=
  matmul dot_S256x2048_S2048x256_S256x256_1_0_0_1_n_n none v15 (shapeCast S2048x256 v59 shapeCasts_S2048x256_S2048x256) (constant S256x256 FTy.f32 0#32)

/-- Each head of 64 lanes laid out twice. -/
def DUP (v51 : FVec Ideal S256x256 .f32) : FVec Ideal S256x512 .bf16 :=
  have v52 := extractStridedSlice S256x64 ![0, 0] v51 slices_S256x256_o0_0_S256x64
  have v53 := extractStridedSlice S256x64 ![0, 64] v51 slices_S256x256_o0_64_S256x64
  have v54 := extractStridedSlice S256x64 ![0, 128] v51 slices_S256x256_o0_128_S256x64
  have v55 := extractStridedSlice S256x64 ![0, 192] v51 slices_S256x256_o0_192_S256x64
  have v56 := concatenate S256x512 1 [⟨S256x64, v52⟩, ⟨S256x64, v52⟩, ⟨S256x64, v53⟩, ⟨S256x64, v53⟩, ⟨S256x64, v54⟩, ⟨S256x64, v54⟩, ⟨S256x64, v55⟩, ⟨S256x64, v55⟩] concatenates_S256x64_S256x64_S256x64_S256x64_S256x64_S256x64_S256x64_S256x64_S256x512_d1
  truncf FTy.bf16 v56 bitsLt_bf16_f32

/-- The keys a block stores are its rotated keys, each head twice. -/
theorem pay6_eq (v15 : FVec Ideal S256x2048 .bf16) (v17 v19 v21 : FVec Ideal S256x128 .f32) (v39 : FVec Ideal S2048x256 .bf16) : k0_pay6 (F := Ideal) v15 v17 v19 v21 v39 = DUP (KR v15 v17 v19 v21 v39) := rfl

/-- The values a block stores, each head twice. -/
theorem pay7_eq (v15 : FVec Ideal S256x2048 .bf16) (v59 : FVec Ideal S2048x256 .bf16) : k0_pay7 (F := Ideal) v15 v59 = DUP (VV v15 v59) := rfl

/-- Each head laid out twice, read at a lane. -/
theorem dup_at (f : FVec Ideal S256x256 .f32) (q : Fin 256) (j : Fin 512) : DUP f (ix2 q j) = f (ix2 q ⟨j.val / 128 * 64 + j.val % 64, by omega⟩) := by
  pointwise [DUP]
  split_ifs <;> exact at_lane f q _ _ (by omega)

/-- The rotated keys of a block are the reference's. -/
theorem kr_at {h : FVec Ideal S256x2048 .bf16} {x3 : FVec Ideal S2048x256 .bf16} {x6 x7 x8 : FVec Ideal S256x128 .f32} (hh : ∀ q k, h (ix2 q k) = Cert.SwaInRefIdeal.Read.val_main_v12 (F := Ideal) X LN (ix2 (R q) k))
    (h3 : ∀ k (j : Fin 256), x3 (ix2 k j) = W (ix2 k ⟨2048 + j.val, by omega⟩)) (h6 : ∀ q (j : Fin 128), x6 (ix2 q j) = if h : j.val % 64 < 8 then C (ix2 (R q) ⟨j.val % 64, h⟩) else if h : j.val % 64 - 8 < 8 then C (ix2 (R q) ⟨j.val % 64 - 8, h⟩) else 1)
    (h7 : ∀ q (j : Fin 128), x7 (ix2 q j) = if h : j.val % 64 < 8 then - S (ix2 (R q) ⟨j.val % 64, h⟩) else 0)
    (h8 : ∀ q (j : Fin 128), x8 (ix2 q j) = if h : j.val % 64 < 8 then 0 else if h : j.val % 64 - 8 < 8 then S (ix2 (R q) ⟨j.val % 64 - 8, h⟩) else 0) (q : Fin 256) (j : Fin 256) :
    KR h x6 x7 x8 x3 (ix2 q j) = Cert.SwaInRefIdeal.Read.val_main_v53 (F := Ideal) X LN W C S (ix3 (R q) ⟨j.val / 64, by omega⟩ ⟨j.val % 64, by omega⟩) := by
  pointwise [KR, T2_at, Cert.SwaInRefIdeal.Read.val_main_v13, Cert.SwaInRefIdeal.Read.val_main_v15, Cert.SwaInRefIdeal.Read.val_main_v37, Cert.SwaInRefIdeal.Read.val_main_v38, Cert.SwaInRefIdeal.Read.val_main_v39, Cert.SwaInRefIdeal.Read.val_main_v40, Cert.SwaInRefIdeal.Read.val_main_v41, Cert.SwaInRefIdeal.Read.val_main_v42, Cert.SwaInRefIdeal.Read.val_main_v43, Cert.SwaInRefIdeal.Read.val_main_v44, Cert.SwaInRefIdeal.Read.val_main_v45, Cert.SwaInRefIdeal.Read.val_main_v46, Cert.SwaInRefIdeal.Read.val_main_v47, Cert.SwaInRefIdeal.Read.val_main_v48, Cert.SwaInRefIdeal.Read.val_main_v49, Cert.SwaInRefIdeal.Read.val_main_v50, Cert.SwaInRefIdeal.Read.val_main_v51, Cert.SwaInRefIdeal.Read.val_main_v52, Cert.SwaInRefIdeal.Read.val_main_v53, hh, h3, h6, h7, h8]
  have t : j.val % 128 % 64 = j.val % 64 := by omega
  simp only [t]
  by_cases hj : j.val % 64 < 8
  · have e2 : (j.val + 256 - 248) % 256 = j.val / 64 * 64 + (8 + j.val % 64) := by omega
    have e3 : j.val / 64 * 64 + j.val % 64 = j.val := by omega
    simp only [hj, e2, ↓reduceDIte, mul_zero, add_zero, mul_neg, ← sub_eq_add_neg]
  · by_cases hk : j.val % 64 - 8 < 8
    · have e1 : j.val / 64 * 64 + (8 + (j.val % 64 - 8)) = j.val := by omega
      have e2 : (j.val + 256 - 8) % 256 = j.val / 64 * 64 + (j.val % 64 - 8) := by omega
      simp only [hj, hk, e1, e2, ↓reduceDIte, mul_zero, add_zero]
    · have e1 : j.val / 64 * 64 + (16 + (j.val % 64 - 8 - 8)) = j.val := by omega
      simp only [hj, hk, e1, ↓reduceDIte, mul_zero, add_zero, mul_one]

/-- The keys. -/
theorem k_at {v : FVec Ideal S256x256 .f32} (hv : ∀ q (j : Fin 256), v (ix2 q j) = Cert.SwaInRefIdeal.Read.val_main_v53 (F := Ideal) X LN W C S (ix3 (R q) ⟨j.val / 64, by omega⟩ ⟨j.val % 64, by omega⟩)) (q : Fin 256) (j : Fin 512) :
    DUP v (ix2 q j) = Cert.SwaInRefIdeal.Read.val_main_v59 (F := Ideal) X LN W C S (ix2 (R q) j) := by
  rw [dup_at]
  pointwise [Cert.SwaInRefIdeal.Read.val_main_v57, Cert.SwaInRefIdeal.Read.val_main_v58, Cert.SwaInRefIdeal.Read.val_main_v59, hv]
  have e1 : (j.val / 128 * 64 + j.val % 64) / 64 = j.val / 128 := by omega
  have e2 : (j.val / 128 * 64 + j.val % 64) % 64 = j.val % 64 := by omega
  simp only [e1, e2]
  by_cases h1 : j.val % 128 < 64
  · have e3 : j.val % 128 = j.val % 64 := by omega
    rw [dif_pos h1]
    simp only [e3]
  · have e3 : j.val % 128 - 64 = j.val % 64 := by omega
    simp only [h1, ↓reduceDIte, e3]

/-- The values. -/
theorem v_at {h : FVec Ideal S256x2048 .bf16} {x4 : FVec Ideal S2048x256 .bf16} (hh : ∀ q k, h (ix2 q k) = Cert.SwaInRefIdeal.Read.val_main_v12 (F := Ideal) X LN (ix2 (R q) k))
    (h4 : ∀ k (j : Fin 256), x4 (ix2 k j) = W (ix2 k ⟨2304 + j.val, by omega⟩)) (q : Fin 256) (j : Fin 512) :
    DUP (VV h x4) (ix2 q j) = Cert.SwaInRefIdeal.Read.val_main_v62 (F := Ideal) X LN W (ix2 (R q) j) := by
  rw [dup_at]
  pointwise [VV, Cert.SwaInRefIdeal.Read.val_main_v13, Cert.SwaInRefIdeal.Read.val_main_v16, Cert.SwaInRefIdeal.Read.val_main_v54, Cert.SwaInRefIdeal.Read.val_main_v60, Cert.SwaInRefIdeal.Read.val_main_v61, Cert.SwaInRefIdeal.Read.val_main_v62, hh, h4]
  by_cases h1 : j.val % 128 < 64
  · have e3 : j.val % 128 = j.val % 64 := by omega
    rw [dif_pos h1]
    simp only [e3]
  · have e3 : j.val % 128 - 64 = j.val % 64 := by omega
    simp only [h1, ↓reduceDIte, e3]

set_option maxHeartbeats 1600000 in
/-- The queries. -/
theorem q_at {x0 : FVec Ideal S256x2048 .f32} {x1 : FVec Ideal S1x2048 .f32} {x2 : FVec Ideal S2048x2048 .bf16} {x6 x7 x8 : FVec Ideal S256x128 .f32} (hh : ∀ q k, k0_pay1 (F := Ideal) x0 x1 (ix2 q k) = Cert.SwaInRefIdeal.Read.val_main_v12 (F := Ideal) X LN (ix2 (R q) k))
    (h2 : ∀ k (j : Fin 2048), x2 (ix2 k j) = W (ix2 k ⟨j.val, by omega⟩)) (h6 : ∀ q (j : Fin 128), x6 (ix2 q j) = if h : j.val % 64 < 8 then C (ix2 (R q) ⟨j.val % 64, h⟩) else if h : j.val % 64 - 8 < 8 then C (ix2 (R q) ⟨j.val % 64 - 8, h⟩) else 1)
    (h7 : ∀ q (j : Fin 128), x7 (ix2 q j) = if h : j.val % 64 < 8 then - S (ix2 (R q) ⟨j.val % 64, h⟩) else 0)
    (h8 : ∀ q (j : Fin 128), x8 (ix2 q j) = if h : j.val % 64 < 8 then 0 else if h : j.val % 64 - 8 < 8 then S (ix2 (R q) ⟨j.val % 64 - 8, h⟩) else 0) (q : Fin 256) (j : Fin 2048) :
    k0_pay5 (F := Ideal) x0 x1 x6 x7 x8 x2 (ix2 q j) = Cert.SwaInRefIdeal.Read.val_main_v56 (F := Ideal) X LN W C S (ix2 (R q) j) := by
  rw [pay5_eq]
  pointwise [QR, T16_at, k0_pay2, k0_pay3, k0_pay4, Cert.SwaInRefIdeal.Read.val_main_v13, Cert.SwaInRefIdeal.Read.val_main_v14, Cert.SwaInRefIdeal.Read.val_main_v18, Cert.SwaInRefIdeal.Read.val_main_v19, Cert.SwaInRefIdeal.Read.val_main_v20, Cert.SwaInRefIdeal.Read.val_main_v21, Cert.SwaInRefIdeal.Read.val_main_v22, Cert.SwaInRefIdeal.Read.val_main_v23, Cert.SwaInRefIdeal.Read.val_main_v24, Cert.SwaInRefIdeal.Read.val_main_v25, Cert.SwaInRefIdeal.Read.val_main_v26, Cert.SwaInRefIdeal.Read.val_main_v27, Cert.SwaInRefIdeal.Read.val_main_v28, Cert.SwaInRefIdeal.Read.val_main_v29, Cert.SwaInRefIdeal.Read.val_main_v30, Cert.SwaInRefIdeal.Read.val_main_v31, Cert.SwaInRefIdeal.Read.val_main_v32, Cert.SwaInRefIdeal.Read.val_main_v33, Cert.SwaInRefIdeal.Read.val_main_v34, Cert.SwaInRefIdeal.Read.val_main_v35, Cert.SwaInRefIdeal.Read.val_main_v36, Cert.SwaInRefIdeal.Read.val_main_v55, Cert.SwaInRefIdeal.Read.val_main_v56, Cert.SwaInRefIdeal.Read.val_main_cst_2, hh, h2, h6, h7, h8]
  have t : j.val % 128 % 64 = j.val % 64 := by omega
  simp only [t]
  refine congrArg (· * _) ?_
  by_cases hj : j.val % 64 < 8
  · have e2 : (j.val + 2048 - 2040) % 2048 = j.val / 64 * 64 + (8 + j.val % 64) := by omega
    have e3 : j.val / 64 * 64 + j.val % 64 = j.val := by omega
    simp only [hj, e2, ↓reduceDIte, mul_zero, add_zero, mul_neg, ← sub_eq_add_neg]
  · by_cases hk : j.val % 64 - 8 < 8
    · have e1 : j.val / 64 * 64 + (8 + (j.val % 64 - 8)) = j.val := by omega
      have e2 : (j.val + 2048 - 8) % 2048 = j.val / 64 * 64 + (j.val % 64 - 8) := by omega
      simp only [hj, hk, e1, e2, ↓reduceDIte, mul_zero, add_zero]
    · have e1 : j.val / 64 * 64 + (16 + (j.val % 64 - 8 - 8)) = j.val := by omega
      simp only [hj, hk, e1, ↓reduceDIte, mul_zero, add_zero, mul_one]

end Cert.SwaInPure
-- ==== Proof.SwaInOps.lean ====
/- The sliding-window layer's projections before its attention: what the host prepares, and what each block of a window holds, entry by entry. -/
module

public import proofs.«01_k».proof.Proof.Gen.SwaInIdeal.Value
public import proofs.«01_k».proof.Proof.Gen.SwaInRefIdeal.Read
public import Idealize.ShloMosaic.Lib.Claim
public import Idealize.ShloMosaic.Lib.Pointwise
public import Idealize.ShloMosaic.Lib.Pipeline.ValueKit
public import Idealize.ShloMosaic.Lib.StableHlo.RunRead

@[expose] public section

set_option maxRecDepth 16384

noncomputable section

namespace Cert.SwaInValue

open Cert.SwaInIdeal Cert.SwaInIdeal.Gen Idealize.ShloMosaic Idealize.ShloMosaic.TcCoe Idealize.SL.Sem
open Idealize.ShloMosaic.Pipeline (Dat)

variable (m : (ℓ : Loc nD τ sig) → Buf (Elt Ideal) ℓ)

/-- Where each window's block lies at grid point `t`: block `t` of the rows, of the three tables and of the four
    results; the weights and the norm's scale are whole at every point. -/
theorem idx : ∀ t : Fin cfg0.N, win0_0.index t = ![t.val, 0] ∧ win0_1.index t = ![0, 0] ∧ win0_2.index t = ![0, 0] ∧ win0_3.index t = ![0, 0] ∧ win0_4.index t = ![0, 0] ∧ win0_5.index t = ![0, 0] ∧ win0_6.index t = ![t.val, 0] ∧ win0_7.index t = ![t.val, 0] ∧ win0_8.index t = ![t.val, 0] ∧ win0_9.index t = ![t.val, 0] ∧ win0_10.index t = ![t.val, 0] ∧ win0_11.index t = ![t.val, 0] ∧ win0_12.index t = ![t.val, 0] :=
  (by decide +kernel : ∀ t : Fin grid0.N, _)

/-- The row of the whole array that row `q` of block `t` is. -/
def rw_ (t : Fin cfg0.N) (q : Fin 256) : Fin 8192 := ⟨256 * t.val + q.val, by have : t.val < 32 := t.isLt; omega⟩

/-- A block of the first window, read at an index: a row of the residual stream. -/
theorem b0 (c : Dev nD) (t : Fin cfg0.N) (q : Fin 256) (k : Fin 2048) : iblk m c 0 t (ix2 q k) = m ((c : Thread nD τ).loc main_arg0) (ix2 (rw_ t q) k) := by
  blk_point [iblk, V, idx t, rw_]

/-- A block of window 1, read at an index. -/
theorem b1 (c : Dev nD) (t : Fin cfg0.N) (q : Fin 1) (j : Fin 2048) : iblk m c 1 t (ix2 q j) = V m c main_v8 (ix2 q j) := by
  blk_point [iblk, idx t, rw_]

/-- A block of window 2, read at an index. -/
theorem b2 (c : Dev nD) (t : Fin cfg0.N) (q : Fin 2048) (j : Fin 2048) : iblk m c 2 t (ix2 q j) = V m c main_v10 (ix2 q j) := by
  blk_point [iblk, idx t, rw_]

/-- A block of window 3, read at an index. -/
theorem b3 (c : Dev nD) (t : Fin cfg0.N) (q : Fin 2048) (j : Fin 256) : iblk m c 3 t (ix2 q j) = V m c main_v12 (ix2 q j) := by
  blk_point [iblk, idx t, rw_]

/-- A block of window 4, read at an index. -/
theorem b4 (c : Dev nD) (t : Fin cfg0.N) (q : Fin 2048) (j : Fin 256) : iblk m c 4 t (ix2 q j) = V m c main_v14 (ix2 q j) := by
  blk_point [iblk, idx t, rw_]

/-- A block of window 5, read at an index. -/
theorem b5 (c : Dev nD) (t : Fin cfg0.N) (q : Fin 2048) (j : Fin 2048) : iblk m c 5 t (ix2 q j) = V m c main_v16 (ix2 q j) := by
  blk_point [iblk, idx t, rw_]

/-- A block of window 6, read at an index. -/
theorem b6 (c : Dev nD) (t : Fin cfg0.N) (q : Fin 256) (j : Fin 128) : iblk m c 6 t (ix2 q j) = V m c main_v4 (ix2 (rw_ t q) j) := by
  blk_point [iblk, idx t, rw_]

/-- A block of window 7, read at an index. -/
theorem b7 (c : Dev nD) (t : Fin cfg0.N) (q : Fin 256) (j : Fin 128) : iblk m c 7 t (ix2 q j) = V m c main_v6 (ix2 (rw_ t q) j) := by
  blk_point [iblk, idx t, rw_]

/-- A block of window 8, read at an index. -/
theorem b8 (c : Dev nD) (t : Fin cfg0.N) (q : Fin 256) (j : Fin 128) : iblk m c 8 t (ix2 q j) = V m c main_v7 (ix2 (rw_ t q) j) := by
  blk_point [iblk, idx t, rw_]

/-- The norm's scale as a row. -/
theorem V8 (c : Dev nD) (k : Fin 2048) : V m c main_v8 (ix2 0 k) = m ((c : Thread nD τ).loc main_arg1) (ix1 k) := by
  simp only [V]
  after_reads_simp
  pointwise []

/-- The queries' columns of the input weight. -/
theorem V10 (c : Dev nD) (k : Fin 2048) (j : Fin 2048) : V m c main_v10 (ix2 k j) = m ((c : Thread nD τ).loc main_arg2) (ix2 k ⟨j.val, by omega⟩) := by
  simp only [V]
  after_reads_simp
  pointwise []

/-- The keys' columns of the input weight. -/
theorem V12 (c : Dev nD) (k : Fin 2048) (j : Fin 256) : V m c main_v12 (ix2 k j) = m ((c : Thread nD τ).loc main_arg2) (ix2 k ⟨2048 + j.val, by omega⟩) := by
  simp only [V]
  after_reads_simp
  pointwise []

/-- The values' columns of the input weight. -/
theorem V14 (c : Dev nD) (k : Fin 2048) (j : Fin 256) : V m c main_v14 (ix2 k j) = m ((c : Thread nD τ).loc main_arg2) (ix2 k ⟨2304 + j.val, by omega⟩) := by
  simp only [V]
  after_reads_simp
  pointwise []

/-- The gate's columns of the input weight. -/
theorem V16 (c : Dev nD) (k : Fin 2048) (j : Fin 2048) : V m c main_v16 (ix2 k j) = m ((c : Thread nD τ).loc main_arg2) (ix2 k ⟨2560 + j.val, by omega⟩) := by
  simp only [V]
  after_reads_simp
  pointwise []

/-- The table of cosines as the host lays it out, ones at the lanes that are not rotated. -/
def TC (C : FVec Ideal S8192x8 .f32) : FVec Ideal S8192x128 .f32 :=
  concatenate S8192x128 1 [⟨S8192x8, C⟩, ⟨S8192x8, C⟩, ⟨S8192x48, broadcastInDim S8192x48 ![] bcast_S_S8192x48 (constant (F := Ideal) S_ FTy.f32 1065353216#32)⟩, ⟨S8192x8, C⟩, ⟨S8192x8, C⟩, ⟨S8192x48, broadcastInDim S8192x48 ![] bcast_S_S8192x48 (constant (F := Ideal) S_ FTy.f32 1065353216#32)⟩] concatenates_S8192x8_S8192x8_S8192x48_S8192x8_S8192x8_S8192x48_S8192x128_d1

/-- The table the lanes of the first half take from the second, zeros elsewhere. -/
def T1 (S : FVec Ideal S8192x8 .f32) : FVec Ideal S8192x128 .f32 :=
  concatenate S8192x128 1 [⟨S8192x8, (Host.negf S : FVec Ideal S8192x8 .f32)⟩, ⟨S8192x56, broadcastInDim S8192x56 ![] bcast_S_S8192x56 (constant (F := Ideal) S_ FTy.f32 0#32)⟩, ⟨S8192x8, (Host.negf S : FVec Ideal S8192x8 .f32)⟩, ⟨S8192x56, broadcastInDim S8192x56 ![] bcast_S_S8192x56 (constant (F := Ideal) S_ FTy.f32 0#32)⟩] concatenates_S8192x8_S8192x56_S8192x8_S8192x56_S8192x128_d1

/-- The table the lanes of the second half take from the first, zeros elsewhere. -/
def T2 (S : FVec Ideal S8192x8 .f32) : FVec Ideal S8192x128 .f32 :=
  concatenate S8192x128 1 [⟨S8192x8, broadcastInDim S8192x8 ![] bcast_S_S8192x8 (constant (F := Ideal) S_ FTy.f32 0#32)⟩, ⟨S8192x8, S⟩, ⟨S8192x48, broadcastInDim S8192x48 ![] bcast_S_S8192x48 (constant (F := Ideal) S_ FTy.f32 0#32)⟩, ⟨S8192x8, broadcastInDim S8192x8 ![] bcast_S_S8192x8 (constant (F := Ideal) S_ FTy.f32 0#32)⟩, ⟨S8192x8, S⟩, ⟨S8192x48, broadcastInDim S8192x48 ![] bcast_S_S8192x48 (constant (F := Ideal) S_ FTy.f32 0#32)⟩] concatenates_S8192x8_S8192x8_S8192x48_S8192x8_S8192x8_S8192x48_S8192x128_d1

/-- A read at an equal lane. -/
theorem at8 (f : FVec Ideal S8192x8 .f32) (q : Fin 8192) {a b : ℕ} (ha : a < 8) (hb : b < 8) (h : a = b) : f (ix2 q ⟨a, ha⟩) = f (ix2 q ⟨b, hb⟩) := by
  subst h; rfl

/-- The table of cosines, read at a lane. -/
theorem TC_at (C : FVec Ideal S8192x8 .f32) (k : Fin 8192) (j : Fin 128) :
    TC C (ix2 k j) = if h : j.val % 64 < 8 then C (ix2 k ⟨j.val % 64, h⟩) else if h : j.val % 64 - 8 < 8 then C (ix2 k ⟨j.val % 64 - 8, h⟩) else 1 := by
  pointwise [TC]
  by_cases hj : j.val < 64
  · have e : j.val % 64 = j.val := by omega
    simp only [e]
    by_cases h1 : j.val < 8
    · simp only [h1, ↓reduceDIte]
    · by_cases h2 : j.val - 8 < 8
      · simp only [h1, h2, ↓reduceDIte]
      · have h3 : j.val - 8 - 8 < 48 := by omega
        simp only [h1, h2, h3, ↓reduceDIte]
  · have e : j.val % 64 = j.val - 64 := by omega
    have h1 : ¬ j.val < 8 := by omega
    have h2 : ¬ j.val - 8 < 8 := by omega
    have h3 : ¬ j.val - 8 - 8 < 48 := by omega
    have e1 : j.val - 8 - 8 - 48 = j.val - 64 := by omega
    simp only [e, h1, h2, h3, e1, ↓reduceDIte]

/-- The first table of sines, read at a lane. -/
theorem T1_at (S : FVec Ideal S8192x8 .f32) (k : Fin 8192) (j : Fin 128) :
    T1 S (ix2 k j) = if h : j.val % 64 < 8 then - S (ix2 k ⟨j.val % 64, h⟩) else 0 := by
  pointwise [T1]
  by_cases hj : j.val < 64
  · have e : j.val % 64 = j.val := by omega
    simp only [e]
    by_cases h1 : j.val < 8
    · simp only [h1, ↓reduceDIte]
    · have h3 : j.val - 8 < 56 := by omega
      simp only [h1, h3, ↓reduceDIte]
  · have e : j.val % 64 = j.val - 64 := by omega
    have h1 : ¬ j.val < 8 := by omega
    have h3 : ¬ j.val - 8 < 56 := by omega
    have e1 : j.val - 8 - 56 = j.val - 64 := by omega
    simp only [e, h1, h3, e1, ↓reduceDIte]

/-- The second table of sines, read at a lane. -/
theorem T2_at (S : FVec Ideal S8192x8 .f32) (k : Fin 8192) (j : Fin 128) :
    T2 S (ix2 k j) = if h : j.val % 64 < 8 then 0 else if h : j.val % 64 - 8 < 8 then S (ix2 k ⟨j.val % 64 - 8, h⟩) else 0 := by
  pointwise [T2]
  by_cases hj : j.val < 64
  · have e : j.val % 64 = j.val := by omega
    simp only [e]
    by_cases h1 : j.val < 8
    · simp only [h1, ↓reduceDIte]
    · by_cases h2 : j.val - 8 < 8
      · simp only [h1, h2, ↓reduceDIte]
      · have h3 : j.val - 8 - 8 < 48 := by omega
        simp only [h1, h2, h3, ↓reduceDIte]
  · have e : j.val % 64 = j.val - 64 := by omega
    have h1 : ¬ j.val < 8 := by omega
    have h2 : ¬ j.val - 8 < 8 := by omega
    have h3 : ¬ j.val - 8 - 8 < 48 := by omega
    have e1 : j.val - 8 - 8 - 48 = j.val - 64 := by omega
    simp only [e, h1, h2, h3, e1, ↓reduceDIte]

set_option maxHeartbeats 1600000 in
/-- The host's table of cosines. -/
theorem V4 (c : Dev nD) : V m c main_v4 = TC (m ((c : Thread nD τ).loc main_arg3)) := by
  simp only [V]
  after_reads_simp
  rfl

set_option maxHeartbeats 1600000 in
/-- The host's table of sines, for the first half of the rotated lanes. -/
theorem V6 (c : Dev nD) : V m c main_v6 = T1 (m ((c : Thread nD τ).loc main_arg4)) := by
  simp only [V]
  after_reads_simp
  rfl

set_option maxHeartbeats 1600000 in
/-- The host's table of sines, for the second half of the rotated lanes. -/
theorem V7 (c : Dev nD) : V m c main_v7 = T2 (m ((c : Thread nD τ).loc main_arg4)) := by
  simp only [V]
  after_reads_simp
  rfl

/-- The position of a block of window 9 in its array. -/
theorem e9 (X : FVec Ideal ⟨2, ![8192, 2048]⟩ .bf16) (t : Fin cfg0.N) (q : Fin 256) (j : Fin 2048) : X (((cfg0.win 9).blk t).view.emb (ix2 q j)) = X (ix2 (rw_ t q) j) := by
  blk_point [idx t, rw_]

/-- The position of a block of window 10 in its array. -/
theorem e10 (X : FVec Ideal ⟨2, ![8192, 512]⟩ .bf16) (t : Fin cfg0.N) (q : Fin 256) (j : Fin 512) : X (((cfg0.win 10).blk t).view.emb (ix2 q j)) = X (ix2 (rw_ t q) j) := by
  blk_point [idx t, rw_]

/-- The position of a block of window 11 in its array. -/
theorem e11 (X : FVec Ideal ⟨2, ![8192, 512]⟩ .bf16) (t : Fin cfg0.N) (q : Fin 256) (j : Fin 512) : X (((cfg0.win 11).blk t).view.emb (ix2 q j)) = X (ix2 (rw_ t q) j) := by
  blk_point [idx t, rw_]

/-- The position of a block of window 12 in its array. -/
theorem e12 (X : FVec Ideal ⟨2, ![8192, 2048]⟩ .bf16) (t : Fin cfg0.N) (q : Fin 256) (j : Fin 2048) : X (((cfg0.win 12).blk t).view.emb (ix2 q j)) = X (ix2 (rw_ t q) j) := by
  blk_point [idx t, rw_]

end Cert.SwaInValue
-- ==== Proof.SwaInValue.lean ====
/- The sliding-window layer's projections before its attention: each of the kernel's four result arrays is the reference's. -/
module

public import proofs.«01_k».proof.Proof.Gen.SwaInIdeal.Value
public import proofs.«01_k».proof.Proof.SwaInPure
public import proofs.«01_k».proof.Proof.SwaInOps
public import Idealize.ShloMosaic.Lib.Claim
public import Idealize.ShloMosaic.Lib.Pointwise
public import Idealize.ShloMosaic.Lib.Pipeline.ValueKit

@[expose] public section

set_option maxRecDepth 16384

noncomputable section

namespace Cert.SwaInValue

open Cert.SwaInIdeal Cert.SwaInIdeal.Gen Idealize.ShloMosaic Idealize.ShloMosaic.TcCoe Idealize.SL.Sem
open Idealize.ShloMosaic.Pipeline (Dat)

section
variable (x0 : FVec Ideal S256x2048 .f32) (x1 : FVec Ideal S1x2048 .f32) (x2 : FVec Ideal S2048x2048 .bf16) (x3 x4 : FVec Ideal S2048x256 .bf16) (x5 : FVec Ideal S2048x2048 .bf16) (x6 x7 x8 : FVec Ideal S256x128 .f32)

/-- The normed rows, from whole blocks. -/
theorem p9 : k0_pay9 (F := Ideal) x0 x1 x2 x3 x4 x5 x6 x7 x8 = k0_pay1 (F := Ideal) x0 x1 := by
  unfold k0_pay9
  congr 1 <;> (funext i; idx_vars i; pointwise []) <;> rw [Subsingleton.elim i0 0]
/-- The cosines, from the whole block. -/
theorem p2 (x : FVec Ideal S256x128 .f32) : k0_pay2 (F := Ideal) x = x := by
  funext i; idx_vars i; pointwise [k0_pay2]
/-- The first table of sines, from the whole block. -/
theorem p3 (x : FVec Ideal S256x128 .f32) : k0_pay3 (F := Ideal) x = x := by
  funext i; idx_vars i; pointwise [k0_pay3]
/-- The second table of sines, from the whole block. -/
theorem p4 (x : FVec Ideal S256x128 .f32) : k0_pay4 (F := Ideal) x = x := by
  funext i; idx_vars i; pointwise [k0_pay4]
end

variable (m : (ℓ : Loc nD τ sig) → Buf (Elt Ideal) ℓ)

/-- The normed rows of block `t`. -/
theorem hB (c : Dev nD) (t : Fin cfg0.N) (q : Fin 256) (k : Fin 2048) : k0_pay1 (F := Ideal) (iblk m c 0 t) (iblk m c 1 t) (ix2 q k)
    = Cert.SwaInRefIdeal.Read.val_main_v12 (F := Ideal) (m ((c : Thread nD τ).loc main_arg0)) (m ((c : Thread nD τ).loc main_arg1)) (ix2 (rw_ t q) k) :=
  Cert.SwaInPure.h_at _ _ (rw_ t) (b0 m c t) (fun k => (b1 m c t 0 k).trans (V8 m c k)) q k

/-- The cosines of block `t`. -/
theorem cB (c : Dev nD) (t : Fin cfg0.N) (C : FVec Ideal S8192x8 .f32) (hC : C = m ((c : Thread nD τ).loc main_arg3)) (q : Fin 256) (j : Fin 128) :
    iblk m c 6 t (ix2 q j) = if h : j.val % 64 < 8 then C (ix2 (rw_ t q) ⟨j.val % 64, h⟩) else if h : j.val % 64 - 8 < 8 then C (ix2 (rw_ t q) ⟨j.val % 64 - 8, h⟩) else 1 := by
  subst hC
  exact ((b6 m c t q j).trans (congrFun (V4 m c) _)).trans (TC_at _ _ _)

/-- The first table of sines of block `t`. -/
theorem s1B (c : Dev nD) (t : Fin cfg0.N) (S : FVec Ideal S8192x8 .f32) (hS : S = m ((c : Thread nD τ).loc main_arg4)) (q : Fin 256) (j : Fin 128) :
    iblk m c 7 t (ix2 q j) = if h : j.val % 64 < 8 then - S (ix2 (rw_ t q) ⟨j.val % 64, h⟩) else 0 := by
  subst hS
  exact ((b7 m c t q j).trans (congrFun (V6 m c) _)).trans (T1_at _ _ _)

/-- The second table of sines of block `t`. -/
theorem s2B (c : Dev nD) (t : Fin cfg0.N) (S : FVec Ideal S8192x8 .f32) (hS : S = m ((c : Thread nD τ).loc main_arg4)) (q : Fin 256) (j : Fin 128) :
    iblk m c 8 t (ix2 q j) = if h : j.val % 64 < 8 then 0 else if h : j.val % 64 - 8 < 8 then S (ix2 (rw_ t q) ⟨j.val % 64 - 8, h⟩) else 0 := by
  subst hS
  exact ((b8 m c t q j).trans (congrFun (V7 m c) _)).trans (T2_at _ _ _)

/-- After the last grid point, the rotated and scaled queries: the result array is the reference's value of the arguments. -/
theorem final9 (c : Dev nD) :
    (dats m 0 c).arrAt 9 (cfgs 0).N = Cert.SwaInRefIdeal.Read.val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 9 _ (by decide +kernel) fun t _ y => ?_
  blk_simp
  rw [after0_9]
  frame_out
  idx_vars y
  refine Eq.trans ?_ (e9 _ t y0 y1).symm
  exact Cert.SwaInPure.q_at _ _ _ _ _ (rw_ t) (hB m c t) (fun k j => (b2 m c t k j).trans (V10 m c k j)) (cB m c t _ rfl) (s1B m c t _ rfl) (s2B m c t _ rfl) y0 y1

/-- After the last grid point, the rotated keys: the result array is the reference's value of the arguments. -/
theorem final10 (c : Dev nD) :
    (dats m 0 c).arrAt 10 (cfgs 0).N = Cert.SwaInRefIdeal.Read.val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 10 _ (by decide +kernel) fun t _ y => ?_
  blk_simp
  rw [after0_10]
  frame_out
  idx_vars y
  refine Eq.trans ?_ (e10 _ t y0 y1).symm
  rw [p9, p2, p3, p4, Cert.SwaInPure.pay6_eq]
  exact Cert.SwaInPure.k_at _ _ _ _ _ (rw_ t) (Cert.SwaInPure.kr_at _ _ _ _ _ (rw_ t) (hB m c t) (fun k j => (b3 m c t k j).trans (V12 m c k j)) (cB m c t _ rfl) (s1B m c t _ rfl) (s2B m c t _ rfl)) y0 y1

/-- After the last grid point, the values: the result array is the reference's value of the arguments. -/
theorem final11 (c : Dev nD) :
    (dats m 0 c).arrAt 11 (cfgs 0).N = Cert.SwaInRefIdeal.Read.val_main_v62 (F := Ideal) (m ((c : Thread nD τ).loc main_arg0)) (m ((c : Thread nD τ).loc main_arg1)) (m ((c : Thread nD τ).loc main_arg2)) := by
  refine (dats m 0 c).arrAt_eq_of_covers 11 _ (by decide +kernel) fun t _ y => ?_
  blk_simp
  rw [after0_11]
  frame_out
  idx_vars y
  refine Eq.trans ?_ (e11 _ t y0 y1).symm
  rw [p9, Cert.SwaInPure.pay7_eq]
  exact Cert.SwaInPure.v_at _ _ _ (rw_ t) (hB m c t) (fun k j => (b4 m c t k j).trans (V14 m c k j)) y0 y1

/-- After the last grid point, the gate: the result array is the reference's value of the arguments. -/
theorem final12 (c : Dev nD) :
    (dats m 0 c).arrAt 12 (cfgs 0).N = Cert.SwaInRefIdeal.Read.val_main_v64 (F := Ideal) (m ((c : Thread nD τ).loc main_arg0)) (m ((c : Thread nD τ).loc main_arg1)) (m ((c : Thread nD τ).loc main_arg2)) := by
  refine (dats m 0 c).arrAt_eq_of_covers 12 _ (by decide +kernel) fun t _ y => ?_
  blk_simp
  rw [after0_12]
  frame_out
  idx_vars y
  refine Eq.trans ?_ (e12 _ t y0 y1).symm
  rw [p9]
  exact Cert.SwaInPure.g_at _ _ _ (rw_ t) (hB m c t) (fun k j => (b5 m c t k j).trans (V16 m c k j)) y0 y1

end Cert.SwaInValue
-- ==== Proof.SwaInClaim.lean ====
/- The sliding-window layer's projections before its attention: the value claim of the call. -/
module

public import proofs.«01_k».proof.Defs
public import proofs.«01_k».proof.Proof.Gen.SwaInIdeal.Frame
public import proofs.«01_k».proof.Proof.Gen.SwaInRefIdeal.Run
public import proofs.«01_k».proof.Proof.SwaInValue
public import Idealize.ShloMosaic.Lib.Claim
public import Idealize.ShloMosaic.Adequacy
public import Idealize.ShloMosaic.Init

@[expose] public section

set_option maxRecDepth 16384

noncomputable section

namespace Cert.SwaInValue

open Idealize.ShloMosaic Idealize.SL.Sem

set_option maxHeartbeats 2000000 in
/-- From memories whose arguments agree, the kernel of the windowed layer's projections and its reference both end, with equal result arrays and
    their arguments as they were. -/
theorem algebraic : Cert.algebraic_SwaInIdeal_SwaInRefIdeal (hSwaInIdeal := Cert.SwaInIdeal.Gen.facts) (hSwaInRefIdeal := Cert.SwaInRefIdeal.Gen.facts) := by
  pair_intro
  · run_from Cert.SwaInIdeal.Gen.run_main m g
  · run_from Cert.SwaInRefIdeal.Value.run m' g'
    · rw [Cert.SwaInValue.final9 m c, Cert.SwaInRefIdeal.Read.val_main_v56_eq, (hagree c).1, (hagree c).2.1, (hagree c).2.2.1, (hagree c).2.2.2.1, (hagree c).2.2.2.2]
    · rw [Cert.SwaInValue.final10 m c, Cert.SwaInRefIdeal.Read.val_main_v59_eq, (hagree c).1, (hagree c).2.1, (hagree c).2.2.1, (hagree c).2.2.2.1, (hagree c).2.2.2.2]
    · rw [Cert.SwaInValue.final11 m c]
      exact Cert.SwaInRefIdeal.Read.val_main_v62_eq _ _ _
    · rw [Cert.SwaInValue.final12 m c]
      exact Cert.SwaInRefIdeal.Read.val_main_v64_eq _ _ _

end Cert.SwaInValue
-- ==== Proof.lean ====
module

public import proofs.«01_k».proof.Defs
public import proofs.«01_k».proof.Proof.Gen.Flash.Frame
public import proofs.«01_k».proof.Proof.Gen.FlashIdeal.Frame
public import proofs.«01_k».proof.Proof.Gen.AttnIdeal.Run
public import proofs.«01_k».proof.Proof.FlashValue
public import proofs.«01_k».proof.Proof.Gen.Pre_finite_scores
public import proofs.«01_k».proof.Proof.Gen.Out.Frame
public import proofs.«01_k».proof.Proof.Gen.OutIdeal.Frame
public import proofs.«01_k».proof.Proof.Gen.OutRefIdeal.Run
public import proofs.«01_k».proof.Proof.OutValue
public import proofs.«01_k».proof.Proof.Gen.Final.Frame
public import proofs.«01_k».proof.Proof.Gen.FinalIdeal.Frame
public import proofs.«01_k».proof.Proof.Gen.FinalRefIdeal.Run
public import proofs.«01_k».proof.Proof.FinalValue
public import proofs.«01_k».proof.Proof.Gen.MlaIn.Frame
public import proofs.«01_k».proof.Proof.Gen.MlaInIdeal.Frame
public import proofs.«01_k».proof.Proof.Gen.MlaInRefIdeal.Run
public import proofs.«01_k».proof.Proof.MlaInClaim
public import proofs.«01_k».proof.Proof.Gen.SwaIn.Frame
public import proofs.«01_k».proof.Proof.Gen.SwaInIdeal.Frame
public import proofs.«01_k».proof.Proof.Gen.SwaInRefIdeal.Run
public import proofs.«01_k».proof.Proof.SwaInClaim
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

/-- Every claim of the certificate. -/
theorem claim : Cert.Claim :=
  ⟨Cert.Flash.Gen.facts, Cert.FlashIdeal.Gen.facts, Cert.AttnIdeal.Gen.facts, Cert.Out.Gen.facts, Cert.OutIdeal.Gen.facts, Cert.OutRefIdeal.Gen.facts, Cert.Final.Gen.facts, Cert.FinalIdeal.Gen.facts, Cert.FinalRefIdeal.Gen.facts, Cert.MlaIn.Gen.facts, Cert.MlaInIdeal.Gen.facts, Cert.MlaInRefIdeal.Gen.facts, Cert.SwaIn.Gen.facts, Cert.SwaInIdeal.Gen.facts, Cert.SwaInRefIdeal.Gen.facts, Cert.Pre_finite_scores.Gen.facts,
    fun m ρ _ => Cert.Flash.Gen.frame m ρ,
    fun m ρ _ => Cert.FlashIdeal.Gen.frame m ρ,
    fun m ρ _ => Cert.FlashIdeal.Gen.frame m ρ,
    fun m ρ _ => (θ_run Cert.AttnIdeal.defs _ _).mono (fun r h => ⟨fun c => (h c).2, sem_eq_zero_of_no_sems (by decide) r.2⟩) (Cert.AttnIdeal.Value.run m ρ),
    fun m ρ _ => (θ_run Cert.AttnIdeal.defs _ _).mono (fun r h => ⟨fun c => (h c).2, sem_eq_zero_of_no_sems (by decide) r.2⟩) (Cert.AttnIdeal.Value.run m ρ),
    fun m ρ _ => Cert.Out.Gen.frame m ρ,
    fun m ρ _ => Cert.OutIdeal.Gen.frame m ρ,
    fun m ρ _ => (θ_run Cert.OutRefIdeal.defs _ _).mono (fun r h => ⟨fun c => (h c).2, sem_eq_zero_of_no_sems (by decide) r.2⟩) (Cert.OutRefIdeal.Value.run m ρ),
    fun m ρ _ => Cert.Final.Gen.frame m ρ,
    fun m ρ _ => Cert.FinalIdeal.Gen.frame m ρ,
    fun m ρ _ => (θ_run Cert.FinalRefIdeal.defs _ _).mono (fun r h => ⟨fun c => (h c).2, sem_eq_zero_of_no_sems (by decide) r.2⟩) (Cert.FinalRefIdeal.Value.run m ρ),
    fun m ρ _ => Cert.MlaIn.Gen.frame m ρ,
    fun m ρ _ => Cert.MlaInIdeal.Gen.frame m ρ,
    fun m ρ _ => (θ_run Cert.MlaInRefIdeal.defs _ _).mono (fun r h => ⟨fun c => (h c).2.2.2.2.2.2, sem_eq_zero_of_no_sems (by decide) r.2⟩) (Cert.MlaInRefIdeal.Value.run m ρ),
    fun m ρ _ => Cert.SwaIn.Gen.frame m ρ,
    fun m ρ _ => Cert.SwaInIdeal.Gen.frame m ρ,
    fun m ρ _ => (θ_run Cert.SwaInRefIdeal.defs _ _).mono (fun r h => ⟨fun c => (h c).2.2.2.2, sem_eq_zero_of_no_sems (by decide) r.2⟩) (Cert.SwaInRefIdeal.Value.run m ρ),
    IdealRules.named_const.statement Cert.FlashIdeal.κ "mask" .f32 0xF149F2CA#32 ⊥ rfl,
    by
      pair_intro
      · run_from Cert.FlashIdeal.Gen.run_main m g
        exact Cert.FlashIdeal.Gen.V_main_arg3 m c
      · run_from Cert.AttnIdeal.Value.run m' g'
        rw [Cert.AttnIdeal.Read.val_main_v37_eq, (hagree c).1, (hagree c).2.1, (hagree c).2.2.1, (hagree c).2.2.2.1, (hagree c).2.2.2.2.1, (hagree c).2.2.2.2.2]
        exact (Cert.FlashValue.final m c (Cert.FlashValue.pre0 (hpre c).1) (Cert.FlashValue.pre1 (hpre c).2.1) (Cert.FlashValue.pre2 (hpre c).2.2.1) (Cert.FlashValue.pre3 (hpre c).2.2.2)).symm,
    trivial,
    by
      pair_intro
      · run_from Cert.OutIdeal.Gen.run_main m g
      · run_from Cert.OutRefIdeal.Value.run m' g'
        exact (Cert.OutIdealValue.final m c).symm,
    trivial,
    by
      pair_intro
      · run_from Cert.FinalIdeal.Gen.run_main m g
      · run_from Cert.FinalRefIdeal.Value.run m' g'
        exact (Cert.FinalIdealValue.final m c).symm,
    trivial,
    Cert.MlaInValue.algebraic,
    trivial,
    Cert.SwaInValue.algebraic⟩

end Cert.Proof

end
